-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_where_row_zero_is_chosen_pre_finite [hKernelIdeal : Cert.KernelIdeal.Facts] [hReferenceIdeal : Cert.ReferenceIdeal.Facts] [hPre_finite : Cert.Pre_finite.Facts] [hOn_where_row_zero_is_chosen : Cert.On_where_row_zero_is_chosen.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 256, 32, 32]⟩ : Shape).Idx, (Cert.On_where_row_zero_is_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2) i = v0 c i)
          ∧ (∀ i : (⟨1, ![8192]⟩ : Shape).Idx, (Cert.On_where_row_zero_is_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v3) i = v1 c i)
          ∧ (∀ i : (⟨0, ![]⟩ : Shape).Idx, (Cert.On_where_row_zero_is_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v4) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 256, 32, 32]⟩ : Shape).Idx, (Cert.On_where_row_zero_is_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v38) i = v0 c i)
          ∧ (∀ i : (⟨1, ![8192]⟩ : Shape).Idx, (Cert.On_where_row_zero_is_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v17) i = v1 c i)
          ∧ (∀ i : (⟨0, ![]⟩ : Shape).Idx, (Cert.On_where_row_zero_is_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v35) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_made_of_row_zero_pre_finite [hKernelIdeal : Cert.KernelIdeal.Facts] [hPre_finite : Cert.Pre_finite.Facts] [hPost_made_of_row_zero : Cert.Post_made_of_row_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_made_of_row_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v2)) (r.2.mem ((c.tc : Thread Cert.KernelIdeal.nD Cert.KernelIdeal.τ).loc Cert.KernelIdeal.main_v3)) (r.2.mem ((c.tc : Thread Cert.KernelIdeal.nD Cert.KernelIdeal.τ).loc Cert.KernelIdeal.main_v4))).1 = (fun _ => 1#1)
      ∧ (Cert.Post_made_of_row_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v2)) (r.2.mem ((c.tc : Thread Cert.KernelIdeal.nD Cert.KernelIdeal.τ).loc Cert.KernelIdeal.main_v3)) (r.2.mem ((c.tc : Thread Cert.KernelIdeal.nD Cert.KernelIdeal.τ).loc Cert.KernelIdeal.main_v4))).2 = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_made_of_row_zero : Cert.Post_made_of_row_zero.Facts) (hOn_where_row_zero_is_chosen : Cert.On_where_row_zero_is_chosen.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_where_row_zero_is_chosen_pre_finite (hKernelIdeal := hKernelIdeal) (hReferenceIdeal := hReferenceIdeal) (hPre_finite := hPre_finite) (hOn_where_row_zero_is_chosen := hOn_where_row_zero_is_chosen)
    ∧ holds_KernelIdeal_made_of_row_zero_pre_finite (hKernelIdeal := hKernelIdeal) (hPre_finite := hPre_finite) (hPost_made_of_row_zero := hPost_made_of_row_zero)
-- ==== On_where_row_zero_is_chosen.lean ====
abbrev S8x256x32x32 : Shape := ⟨4, ![8, 256, 32, 32]⟩
abbrev S8192x256 : Shape := ⟨2, ![8192, 256]⟩
abbrev S8x32x32x256 : Shape := ⟨4, ![8, 32, 32, 256]⟩
abbrev S_ : Shape := ⟨0, ![]⟩
abbrev S8192 : Shape := ⟨1, ![8192]⟩
abbrev S1x256 : Shape := ⟨2, ![1, 256]⟩
abbrev S256 : Shape := ⟨1, ![256]⟩
abbrev S1x256x1x1 : Shape := ⟨4, ![1, 256, 1, 1]⟩

class Facts : Prop where
  transposes_S8x256x32x32_S8x32x32x256_0_2_3_1 : S8x256x32x32.Transposes [0, 2, 3, 1] S8x32x32x256
  shapeCasts_S8x32x32x256_S8192x256 : S8x32x32x256.ShapeCasts S8192x256
  reducesTo_S8192x256_S8192_d1 : S8192x256.ReducesTo [1] S8192
  h_S_ : 0 < S_.numel
  reducesTo_S8192_S_d0 : S8192.ReducesTo [0] S_
  sliceFits_S8192x256_S1x256 : S8192x256.Slices (fun _ => 0) S1x256
  shapeCasts_S1x256_S256 : S1x256.ShapeCasts S256
  slices_S8192x256_S1x256_0_0 : S8192x256.Slices ![0, 0] S1x256
  bcast_S256_S1x256x1x1_1 : S256.BroadcastsInDim S1x256x1x1 (![1] : Fin 1 → Fin S1x256x1x1.rank)
  bcast_S1x256x1x1_S8x256x32x32_0_1_2_3 : S1x256x1x1.BroadcastsInDim S8x256x32x32 (![0, 1, 2, 3] : Fin 4 → Fin S8x256x32x32.rank)
  bcast_S_S8192 : S_.BroadcastsInDim S8192 (![] : Fin 0 → Fin S8192.rank)
  reducesTo_S256_S_d0 : S256.ReducesTo [0] S_

variable [Facts]

variable {F : FTy → Type} [FloatOps F]
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S8192 .f32) : IVec S_ 32 :=
  let v0 : IVec S8192 32 := iotaInDim S8192 32 0
  let cst : FVec F S_ .f32 := constant S_ .f32 0x7F800000#32
  let c : IVec S_ 32 := constantI S_ 32 0#32
  let v1_0 : FVec F S_ .f32 := (fun x y u v j => (Host.argReduce reducer_argmin_f32_i32 x y u v reducesTo_S8192_S_d0 h_S_ j).1) arg0 v0 cst c
  let v1_1 : IVec S_ 32 := (fun x y u v j => (Host.argReduce reducer_argmin_f32_i32 x y u v reducesTo_S8192_S_d0 h_S_ j).2) arg0 v0 cst c
  v1_1

def fn_part1 {F : FTy → Type} [FloatOps F] (main_v15 : IVec S256 1) : IVec S8x256x32x32 1 × IVec S8192 1 × IVec S_ 1 :=
  let main_v16 : IVec S1x256x1x1 1 := broadcastInDim S1x256x1x1 ![1] bcast_S256_S1x256x1x1_1 main_v15
  let main_v17 : IVec S8x256x32x32 1 := broadcastInDim S8x256x32x32 ![0, 1, 2, 3] bcast_S1x256x1x1_S8x256x32x32_0_1_2_3 main_v16
  let main_c_6 : IVec S_ 1 := constantI S_ 1 1#1
  let main_v18 : IVec S8192 1 := broadcastInDim S8192 ![] bcast_S_S8192 main_c_6
  let main_c_7 : IVec S_ 1 := constantI S_ 1 1#1
  let main_v19 : IVec S_ 1 := (fun x v => Host.reduce IntOp.andi x v reducesTo_S256_S_d0 h_S_) main_v15 main_c_7
  (main_v17, main_v18, main_v19)

def fn {F : FTy → Type} [FloatOps F] (main_arg0 : FVec F S8x256x32x32 .f32) (main_arg1 : FVec F S8192x256 .f32) : IVec S8x256x32x32 1 × IVec S8192 1 × IVec S_ 1 :=
  let main_v0 : FVec F S8x32x32x256 .f32 := (transpose S8x32x32x256 [0, 2, 3, 1] · transposes_S8x256x32x32_S8x32x32x256_0_2_3_1) main_arg0
  let main_v1 : FVec F S8192x256 .f32 := shapeCast S8192x256 main_v0 shapeCasts_S8x32x32x256_S8192x256
  let main_v2 : FVec F S8192x256 .f32 := mulf main_arg1 main_arg1
  let main_cst : FVec F S_ .f32 := constant S_ .f32 0x00000000#32
  let main_v3 : FVec F S8192 .f32 := (fun x v => Host.reduceAdd x v reducesTo_S8192x256_S8192_d1 h_S_) main_v2 main_cst
  let main_v4 : IVec S_ 32 := fn_argmin (F := F) main_v3
  let main_c : IVec S_ 32 := constantI S_ 32 0#32
  let main_v5 : IVec S_ 1 := cmpi .slt main_v4 main_c
  let main_c_0 : IVec S_ 32 := constantI S_ 32 8192#32
  let main_v6 : IVec S_ 32 := addi main_v4 main_c_0
  let main_v7 : IVec S_ 32 := select main_v5 main_v6 main_v4
  let main_c_1 : IVec S_ 32 := constantI S_ 32 0#32
  let main_c_2 : IVec S_ 32 := constantI S_ 32 0#32
  let main_v8 : IVec S_ 1 := cmpi .slt main_c_1 main_c_2
  let main_c_3 : IVec S_ 32 := constantI S_ 32 0#32
  let main_c_4 : IVec S_ 32 := constantI S_ 32 256#32
  let main_v9 : IVec S_ 32 := addi main_c_3 main_c_4
  let main_c_5 : IVec S_ 32 := constantI S_ 32 0#32
  let main_v10 : IVec S_ 32 := select main_v8 main_v9 main_c_5
  let main_v11 : FVec F S1x256 .f32 := (fun x i => Host.dynamicSlice S1x256 x (fun k => (i k (Shape.Idx.first h_S_)).toInt) sliceFits_S8192x256_S1x256) main_v1 (![main_v7, main_v10] : Fin 2 → IVec S_ 32)
  let main_v12 : FVec F S256 .f32 := shapeCast S256 main_v11 shapeCasts_S1x256_S256
  let main_v13 : FVec F S1x256 .f32 := (extractStridedSlice S1x256 ![0, 0] · slices_S8192x256_S1x256_0_0) main_v1
  let main_v14 : FVec F S256 .f32 := shapeCast S256 main_v13 shapeCasts_S1x256_S256
  let main_v15 : IVec S256 1 := cmpf .oeq main_v12 main_v14
  fn_part1 (F := F) main_v15
-- ==== Post_made_of_row_zero.lean ====
abbrev S8x256x32x32 : Shape := ⟨4, ![8, 256, 32, 32]⟩
abbrev S8192x256 : Shape := ⟨2, ![8192, 256]⟩
abbrev S8192 : Shape := ⟨1, ![8192]⟩
abbrev S_ : Shape := ⟨0, ![]⟩
abbrev S1x256x1x1 : Shape := ⟨4, ![1, 256, 1, 1]⟩
abbrev S256 : Shape := ⟨1, ![256]⟩

class Facts : Prop where
  slices_S8x256x32x32_S1x256x1x1_0_0_0_0 : S8x256x32x32.Slices ![0, 0, 0, 0] S1x256x1x1
  shapeCasts_S1x256x1x1_S256 : S1x256x1x1.ShapeCasts S256
  bcast_S256_S1x256x1x1_1 : S256.BroadcastsInDim S1x256x1x1 (![1] : Fin 1 → Fin S1x256x1x1.rank)
  bcast_S1x256x1x1_S8x256x32x32_0_1_2_3 : S1x256x1x1.BroadcastsInDim S8x256x32x32 (![0, 1, 2, 3] : Fin 4 → Fin S8x256x32x32.rank)
  reducesTo_S8x256x32x32_S_d0_1_2_3 : S8x256x32x32.ReducesTo [0, 1, 2, 3] S_
  h_S_ : 0 < S_.numel

variable [Facts]

def fn {F : FTy → Type} [FloatOps F] (main_arg0 : FVec F S8x256x32x32 .f32) (main_arg1 : FVec F S8192x256 .f32) (main_arg2 : FVec F S8x256x32x32 .f32) (main_arg3 : IVec S8192 32) (main_arg4 : FVec F S_ .f32) : IVec S8x256x32x32 1 × IVec S_ 1 :=
  let main_v0 : FVec F S1x256x1x1 .f32 := (extractStridedSlice S1x256x1x1 ![0, 0, 0, 0] · slices_S8x256x32x32_S1x256x1x1_0_0_0_0) main_arg0
  let main_v1 : FVec F S256 .f32 := shapeCast S256 main_v0 shapeCasts_S1x256x1x1_S256
  let main_v2 : FVec F S1x256x1x1 .f32 := broadcastInDim S1x256x1x1 ![1] bcast_S256_S1x256x1x1_1 main_v1
  let main_v3 : FVec F S8x256x32x32 .f32 := broadcastInDim S8x256x32x32 ![0, 1, 2, 3] bcast_S1x256x1x1_S8x256x32x32_0_1_2_3 main_v2
  let main_v4 : FVec F S8x256x32x32 .f32 := subf main_v3 main_arg0
  let main_v5 : FVec F S8x256x32x32 .f32 := mulf main_v4 main_v4
  let main_cst : FVec F S_ .f32 := constant S_ .f32 0x00000000#32
  let main_v6 : FVec F S_ .f32 := (fun x v => Host.reduceAdd x v reducesTo_S8x256x32x32_S_d0_1_2_3 h_S_) main_v5 main_cst
  let main_cst_0 : FVec F S_ .f32 := constant S_ .f32 0x4A000000#32
  let main_v7 : FVec F S_ .f32 := Host.divf main_v6 main_cst_0
  let main_v8 : FVec F S8x256x32x32 .f32 := broadcastInDim S8x256x32x32 ![0, 1, 2, 3] bcast_S1x256x1x1_S8x256x32x32_0_1_2_3 main_v2
  let main_v9 : IVec S8x256x32x32 1 := cmpf .oeq main_arg2 main_v8
  let main_cst_1 : FVec F S_ .f32 := constant S_ .f32 0x3E800000#32
  let main_v10 : FVec F S_ .f32 := mulf main_v7 main_cst_1
  let main_v11 : FVec F S_ .f32 := addf main_v7 main_v10
  let main_v12 : IVec S_ 1 := cmpf .oeq main_arg4 main_v11
  (main_v9, main_v12)
-- ==== Pre_finite.lean ====
abbrev S8x256x32x32 : Shape := ⟨4, ![8, 256, 32, 32]⟩
abbrev S8192x256 : Shape := ⟨2, ![8192, 256]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8x256x32x32 .f32) (main_arg1 : FVec F S8192x256 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8x256x32x32 : Shape := ⟨4, ![8, 256, 32, 32]⟩
abbrev S8192x256 : Shape := ⟨2, ![8192, 256]⟩
abbrev S8x256x1024 : Shape := ⟨3, ![8, 256, 1024]⟩
abbrev S4x2x1024 : Shape := ⟨3, ![4, 2, 1024]⟩
abbrev S1x1 : Shape := ⟨2, ![1, 1]⟩
abbrev S2x256x1024 : Shape := ⟨3, ![2, 256, 1024]⟩
abbrev S2048x256 : Shape := ⟨2, ![2048, 256]⟩
abbrev S1x256x1 : Shape := ⟨3, ![1, 256, 1]⟩
abbrev S1 : Shape := ⟨1, ![1]⟩
abbrev S2 : Shape := ⟨1, ![2]⟩
abbrev S2x1024 : Shape := ⟨2, ![2, 1024]⟩
abbrev S1x2x1024 : Shape := ⟨3, ![1, 2, 1024]⟩
abbrev S2048 : Shape := ⟨1, ![2048]⟩
abbrev S2048x1 : Shape := ⟨2, ![2048, 1]⟩
abbrev S1x2048x1 : Shape := ⟨3, ![1, 2048, 1]⟩
abbrev S1x1x1 : Shape := ⟨3, ![1, 1, 1]⟩
abbrev S1x2x256x1024 : Shape := ⟨4, ![1, 2, 256, 1024]⟩
abbrev S1x1x1x1 : Shape := ⟨4, ![1, 1, 1, 1]⟩
abbrev S8192 : Shape := ⟨1, ![8192]⟩
abbrev S_ : Shape := ⟨0, ![]⟩

abbrev nBuf : Space → Nat
  | .hbm => 9
  | .vmem => 9
  | .smem => 4
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8x256x1024, .f32⟩
  | .hbm, ⟨3, _⟩ => ⟨S8x256x1024, .f32⟩
  | .hbm, ⟨4, _⟩ => ⟨S4x2x1024, .i32⟩
  | .hbm, ⟨5, _⟩ => ⟨S1x1, .f32⟩
  | .hbm, ⟨6, _⟩ => ⟨S8x256x32x32, .f32⟩
  | .hbm, ⟨7, _⟩ => ⟨S8192, .i32⟩
  | .hbm, ⟨8, _⟩ => ⟨S_, .f32⟩
  | .local _ .vmem, ⟨0, _⟩ => ⟨S2x256x1024, .f32⟩
  | .local _ .vmem, ⟨1, _⟩ => ⟨S2x256x1024, .f32⟩
  | .local _ .vmem, ⟨2, _⟩ => ⟨S2048x256, .f32⟩
  | .local _ .vmem, ⟨3, _⟩ => ⟨S2048x256, .f32⟩
  | .local _ .vmem, ⟨4, _⟩ => ⟨S2x256x1024, .f32⟩
  | .local _ .vmem, ⟨5, _⟩ => ⟨S2x256x1024, .f32⟩
  | .local _ .vmem, ⟨6, _⟩ => ⟨S4x2x1024, .i32⟩
  | .local _ .vmem, ⟨7, _⟩ => ⟨S4x2x1024, .f32⟩
  | .local _ .vmem, ⟨8, _⟩ => ⟨S1x256x1, .f32⟩
  | .local _ .smem, ⟨0, _⟩ => ⟨S1x1, .f32⟩
  | .local _ .smem, ⟨1, _⟩ => ⟨S1, .f32⟩
  | .local _ .smem, ⟨2, _⟩ => ⟨S2, .f32⟩
  | .local _ .smem, ⟨3, _⟩ => ⟨S1, .i32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg4_0 : Ref sig .tc := ⟨.smem, 0, rfl⟩
abbrev cc0_scratch2 : Ref sig .tc := ⟨.smem, 1, rfl⟩
abbrev cc0_scratch3 : Ref sig .tc := ⟨.smem, 2, rfl⟩
abbrev cc0_scratch4 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let v12 : Index := Scalar.indexCast arg0
  let c0_9 : Index := 0#32
  let c0_10 : Index := 0#32
  ![v12.toNat, 0, 0]
def k0_cond4 (i : grid0.Coords) : BitVec 1 :=
  let arg0 : BitVec 32 := BitVec.ofNat 32 (i 0).val
  let c3_i32 : BitVec 32 := 3#32
  let v51 : BitVec 1 := Scalar.cmpi .eq arg0 c3_i32
  let v52 : BitVec 32 := Scalar.extui v51
  let c0_i32_22 : BitVec 32 := 0#32
  let v53 : BitVec 1 := Scalar.cmpi .ne v52 c0_i32_22
  v53

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x256x32x32 : Shape := ⟨4, ![8, 256, 32, 32]⟩
abbrev S8192x256 : Shape := ⟨2, ![8192, 256]⟩
abbrev S8x32x32x256 : Shape := ⟨4, ![8, 32, 32, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S256x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S_, .f32⟩
  | .hbm, ⟨25, _⟩ => ⟨S_, .i32⟩
  | .hbm, ⟨26, _⟩ => ⟨S8192, .f32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x256, .f32⟩
  | .hbm, ⟨37, _⟩ => ⟨S8x32x32x256, .f32⟩
  | .hbm, ⟨38, _⟩ => ⟨S8x32x32x256, .f32⟩
  | .hbm, ⟨39, _⟩ => ⟨S8x32x32x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8x32x32x256, .f32⟩
  | .hbm, ⟨45, _⟩ => ⟨S8x32x32x256, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8x32x32x256, .f32⟩
  | .hbm, ⟨54, _⟩ => ⟨S8x32x32x256, .f32⟩
  | .hbm, ⟨55, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test for the first point of the grid. -/
abbrev isFirst (i : grid0.Coords) : Prop := (Scalar.cmpi .ne (Scalar.extui (Scalar.cmpi .eq (BitVec.ofNat 32 (i 0).val) 0#32)) 0#32) = 1#1
/-- The body's test for a point after the first. -/
abbrev isLater (i : grid0.Coords) : Prop := (Scalar.cmpi .ne (Scalar.extui (Scalar.cmpi .sgt (BitVec.ofNat 32 (i 0).val) 0#32)) 0#32) = 1#1

/-- A pair of numbers as the contents of a two-cell buffer. -/
def two (a b : Elt F .f32) : Vec F S2 .f32 := fun y => if (y 0).val = 0 then a else b

/-- The row of a block of the table that has the smallest sum of squares, counted from the table's first row. -/
def argIn (i : grid0.Coords) (x1 : Vec F S2048x256 .f32) : Elt F .i32 :=
  extractAt ![0, 0, 0] (k0_pay1 (k0_pay16 i) (k0_pay17 x1) k0_pay18) inpos_S1x1x1_p0_0_0

/-- The two cells of a pair are stored one after the other, whatever was there. -/
theorem read_two {κ : Kind} {sp : Space} (v : View sig κ sp S2 .f32) (f : v.ty.Contents (Elt F))
    (i0 : ∀ a, (![0] : Fin 1 → ℕ) a + S1.size a ≤ S2.size a) (i1 : ∀ a, (![1] : Fin 1 → ℕ) a + S1.size a ≤ S2.size a) (a b : Elt F .f32) :
    v.read (Elt F) (v.writes (Elt F) f [⟨Rect.unit (s := S2) ![0] S1.size i0, fun _ => a⟩, ⟨Rect.unit (s := S2) ![1] S1.size i1, fun _ => b⟩]) = two a b := by
  funext y
  unfold two
  split_ifs with h
  · exact View.read_writes_cons_unit_of_mem v f i0 _ _ y (fun a => ⟨0, by fin_cases a; exact Nat.one_pos⟩) rfl (by intro a; fin_cases a; simpa using h)
  · have h1 : (y 0).val = 1 := by have : (y 0).val < 2 := (y 0).isLt; omega
    refine (View.read_writes_cons_unit_of_not_mem v f i0 _ _ y rfl 0 (by simp [h1])).trans ?_
    exact View.read_writes_cons_unit_of_mem v f i1 _ _ y (fun a => ⟨0, by fin_cases a; exact Nat.one_pos⟩) rfl (by intro a; fin_cases a; simpa using h1)

/-- The same, the cells stored the other way round. -/
theorem read_two' {κ : Kind} {sp : Space} (v : View sig κ sp S2 .f32) (f : v.ty.Contents (Elt F))
    (i0 : ∀ a, (![0] : Fin 1 → ℕ) a + S1.size a ≤ S2.size a) (i1 : ∀ a, (![1] : Fin 1 → ℕ) a + S1.size a ≤ S2.size a) (a b : Elt F .f32) :
    v.read (Elt F) (v.writes (Elt F) f [⟨Rect.unit (s := S2) ![1] S1.size i1, fun _ => b⟩, ⟨Rect.unit (s := S2) ![0] S1.size i0, fun _ => a⟩]) = two a b := by
  funext y
  unfold two
  split_ifs with h
  · refine (View.read_writes_cons_unit_of_not_mem v f i1 _ _ y rfl 0 (by simp [h])).trans ?_
    exact View.read_writes_cons_unit_of_mem v f i0 _ _ y (fun a => ⟨0, by fin_cases a; exact Nat.one_pos⟩) rfl (by intro a; fin_cases a; simpa using h)
  · have h1 : (y 0).val = 1 := by have : (y 0).val < 2 := (y 0).isLt; omega
    exact View.read_writes_cons_unit_of_mem v f i1 _ _ y (fun a => ⟨0, by fin_cases a; exact Nat.one_pos⟩) rfl (by intro a; fin_cases a; simpa using h1)

/-- A load inside contents known as a vector takes the vector at the shifted index. -/
theorem load_at {κ : Kind} {sp : Space} {s : Shape} {e : EltTy} (m : Memref sig κ sp s e) (hm : m.IsWhole) (d : Vec F s e)
    {off size : Fin s.rank → ℕ} (inb : ∀ a, off a + size a ≤ s.size a) (x : (Rect.unit off size inb).shape.Idx) :
    m.view.readAt (Elt F) (Rect.unit off size inb).toLoadRect (hm.unread d) x = d ((Rect.unit off size inb).emb x) := by
  have := congrFun (hm.read_unread d) ((Rect.unit off size inb).emb x)
  exact this

variable (c : Dev nD) (i : grid0.Coords)

set_option maxHeartbeats 1600000 in
/-- The body at a point between the first and the last: the output block is stored, the block's norms go into their slice, and the
    running sum, minimum, maximum and row number are brought up to date; what it is given in windows 3 and 4 it does not touch. -/
theorem runB (arg1 : Memref sig .tc .vmem S2x256x1024 .f32) (harg1 : arg1.IsWhole) (arg2 : Memref sig .tc .vmem S2048x256 .f32) (harg2 : arg2.IsWhole) (arg3 : Memref sig .tc .vmem S2x256x1024 .f32) (harg3 : arg3.IsWhole) (arg4 : Memref sig .tc .vmem S4x2x1024 .i32) (harg4 : arg4.IsWhole) (arg5 : Memref sig .tc .smem S1x1 .f32) (harg5 : arg5.IsWhole) (arg6 : Memref sig .tc .vmem S4x2x1024 .f32) (harg6 : arg6.IsWhole) (arg7 : Memref sig .tc .vmem S1x256x1 .f32) (harg7 : arg7.IsWhole) (arg8 : Memref sig .tc .smem S1 .f32) (harg8 : arg8.IsWhole) (arg9 : Memref sig .tc .smem S2 .f32) (harg9 : arg9.IsWhole) (arg10 : Memref sig .tc .smem S1 .i32) (harg10 : arg10.IsWhole) (hc0 : ¬isFirst i) (hc2 : isLater i) (hc3 : ¬k0_cond4 i = 1#1)
    (x0 : Vec F S2x256x1024 .f32) (x1 : Vec F S2048x256 .f32) (d6 : Vec F S4x2x1024 .f32) (v : Vec F S1x256x1 .f32) (acc lo hi : Elt F .f32) (j : Elt F .i32)
    (E : Set ℕ) (K : PUnit → sProp 𝕄) :
        iprop(owns (c : Thread nD τ) arg1 fullShare x0 ∗ owns (c : Thread nD τ) arg2 fullShare x1 ∗ (∃ d, owns (c : Thread nD τ) arg3 fullShare d) ∗ owns (c : Thread nD τ) arg6 fullShare d6 ∗ owns (c : Thread nD τ) arg7 fullShare v ∗ owns (c : Thread nD τ) arg8 fullShare (fun _ => acc) ∗ owns (c : Thread nD τ) arg9 fullShare (two lo hi) ∗ owns (c : Thread nD τ) arg10 fullShare (fun _ => j)
            ∗ (iprop(owns (c : Thread nD τ) arg1 fullShare x0 ∗ owns (c : Thread nD τ) arg2 fullShare x1 ∗ owns (c : Thread nD τ) arg3 fullShare (k0_pay11 x0 v) ∗ owns (c : Thread nD τ) arg6 fullShare (VecWindow.put d6 (k0_off1 i) S1x2x1024.size (k0_pay12 x0)) ∗ owns (c : Thread nD τ) arg7 fullShare v ∗ owns (c : Thread nD τ) arg8 fullShare (fun _ => k0_pay3 (k0_pay10 x0 v) acc) ∗ owns (c : Thread nD τ) arg9 fullShare (two (k0_pay5 (k0_pay14 x1) lo) (k0_pay4 (k0_pay15 x1) hi)) ∗ owns (c : Thread nD τ) arg10 fullShare (fun _ => Scalar.select (Scalar.cmpf .olt (k0_pay14 x1) lo) (argIn i x1) j)) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10) K := by
    simp only [cc0__vq_kernel_eq_skeleton]; unfold cc0__vq_kernel_skel
    simp only [k0_part1_eq_skeleton]
    unfold owns
    iintro ⟨⟨%f0, %hf0, H0⟩, ⟨%f1, %hf1, H1⟩, ⟨%d2, %f2, -, H2⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc2 | sl_exact hc3)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      swap; · iexact H2
      ipureintro
      rw [View.readAt_full, View.readAt_full, hf0, hf7]
      exact View.read_writes_full _ _ _ _ _
    isplitl [H6]
    · iexists _; isplitr
      swap; · iexact H6
      ipureintro
      rw [View.read_writes_cons_put _ _ _ _ _ rfl, View.writes_nil, hf6, View.readAt_full, hf0]
    isplitl [H7]
    · iexists _; isplitr
      · ipureintro; exact hf7
      · iexact H7
    isplitl [H8]
    · iexists _; isplitr
      swap; · iexact H8
      ipureintro
      refine (View.read_writes_full (s := S1) _ _ inb_S1_S1_0 _ _).trans ?_
      unfold runB.sl.r runB.sl.r_4
      rw [View.readAt_full, View.readAt_full, hf0, hf7]
      rw [load_at]
      rfl
    isplitl [H9]
    · iexists _; isplitr
      swap; · iexact H9
      ipureintro
      refine (read_two _ _ inb_S2_S1_0 inb_S2_S1_1 _ _).trans ?_
      unfold runB.sl.r_1 runB.sl.r_2 runB.sl.r_5 runB.sl.r_6 runB.sl.f
      rw [View.readAt_full, hf1, load_at, load_at]
      rfl
    · iexists _; isplitr
      swap; · iexact H10
      ipureintro
      refine (View.read_writes_full (s := S1) _ _ inb_S1_S1_0 _ _).trans ?_
      unfold runB.sl.r_1 runB.sl.r_6 runB.sl.r_3 runB.sl.r_7 runB.sl.f
      rw [View.readAt_full, hf1, load_at, load_at]
      rfl

set_option maxHeartbeats 1600000 in
/-- The body at the first point: row 0 is kept for all later points, and the running values start at the block's own. -/
theorem runA (arg1 : Memref sig .tc .vmem S2x256x1024 .f32) (harg1 : arg1.IsWhole) (arg2 : Memref sig .tc .vmem S2048x256 .f32) (harg2 : arg2.IsWhole) (arg3 : Memref sig .tc .vmem S2x256x1024 .f32) (harg3 : arg3.IsWhole) (arg4 : Memref sig .tc .vmem S4x2x1024 .i32) (harg4 : arg4.IsWhole) (arg5 : Memref sig .tc .smem S1x1 .f32) (harg5 : arg5.IsWhole) (arg6 : Memref sig .tc .vmem S4x2x1024 .f32) (harg6 : arg6.IsWhole) (arg7 : Memref sig .tc .vmem S1x256x1 .f32) (harg7 : arg7.IsWhole) (arg8 : Memref sig .tc .smem S1 .f32) (harg8 : arg8.IsWhole) (arg9 : Memref sig .tc .smem S2 .f32) (harg9 : arg9.IsWhole) (arg10 : Memref sig .tc .smem S1 .i32) (harg10 : arg10.IsWhole) (hc0 : isFirst i) (hc2 : ¬isLater i) (hc3 : ¬k0_cond4 i = 1#1)
    (x0 : Vec F S2x256x1024 .f32) (x1 : Vec F S2048x256 .f32) (d6 : Vec F S4x2x1024 .f32)
    (E : Set ℕ) (K : PUnit → sProp 𝕄) :
        iprop(owns (c : Thread nD τ) arg1 fullShare x0 ∗ owns (c : Thread nD τ) arg2 fullShare x1 ∗ (∃ d, owns (c : Thread nD τ) arg3 fullShare d) ∗ owns (c : Thread nD τ) arg6 fullShare d6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare (k0_pay11 x0 (k0_pay9 x0)) ∗ owns (c : Thread nD τ) arg6 fullShare (VecWindow.put d6 (k0_off1 i) S1x2x1024.size (k0_pay12 x0)) ∗ owns (c : Thread nD τ) arg7 fullShare (k0_pay9 x0) ∗ owns (c : Thread nD τ) arg8 fullShare (fun _ => k0_pay2 (k0_pay10 x0 (k0_pay9 x0))) ∗ owns (c : Thread nD τ) arg9 fullShare (two (k0_pay14 x1) (k0_pay15 x1)) ∗ owns (c : Thread nD τ) arg10 fullShare (fun _ => argIn i x1)) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10) K := by
    simp only [cc0__vq_kernel_eq_skeleton]; unfold cc0__vq_kernel_skel
    simp only [k0_part1_eq_skeleton]
    unfold owns
    iintro ⟨⟨%f0, %hf0, H0⟩, ⟨%f1, %hf1, H1⟩, ⟨%d2, %f2, -, H2⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg6.eq_unread hf6
    sl_exec (disch := first | sl_exact hc0 | sl_exact hc2 | sl_exact hc3)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      swap; · iexact H2
      ipureintro
      unfold runA.sl.v5 runA.sl.H7_1
      rw [View.readAt_full, View.readCov_full, hf0]
      exact View.read_writes_full _ _ _ _ _
    isplitl [H6]
    · iexists _; isplitr
      swap; · iexact H6
      ipureintro
      rw [View.read_writes_cons_put _ _ _ _ _ rfl, View.writes_nil, hf6, View.readAt_full, hf0]
    isplitl [H7]
    · iexists _; isplitr
      swap; · iexact H7
      ipureintro
      unfold runA.sl.H7_1
      rw [View.readAt_full, hf0]
      exact View.read_writes_full _ _ _ _ _
    isplitl [H8]
    · iexists _; isplitr
      swap; · iexact H8
      ipureintro
      refine (View.read_writes_full (s := S1) _ _ inb_S1_S1_0 _ _).trans ?_
      unfold runA.sl.r runA.sl.v5 runA.sl.H7_1
      rw [View.readCov_full, View.readAt_full, hf0]
      rfl
    isplitl [H9]
    · iexists _; isplitr
      swap; · iexact H9
      ipureintro
      refine (read_two' _ _ inb_S2_S1_0 inb_S2_S1_1 _ _).trans ?_
      unfold runA.sl.r_1 runA.sl.r_2
      rw [View.readAt_full, hf1]
    · iexists _; isplitr
      swap; · iexact H10
      ipureintro
      refine (View.read_writes_full (s := S1) _ _ inb_S1_S1_0 _ _).trans ?_
      unfold runA.sl.r_3
      rw [View.readAt_full, hf1]
      rfl

set_option maxHeartbeats 1600000 in
/-- The body at the last point: as at any later point, and then the indices and the loss are stored from the final running values. -/
theorem runC (arg1 : Memref sig .tc .vmem S2x256x1024 .f32) (harg1 : arg1.IsWhole) (arg2 : Memref sig .tc .vmem S2048x256 .f32) (harg2 : arg2.IsWhole) (arg3 : Memref sig .tc .vmem S2x256x1024 .f32) (harg3 : arg3.IsWhole) (arg4 : Memref sig .tc .vmem S4x2x1024 .i32) (harg4 : arg4.IsWhole) (arg5 : Memref sig .tc .smem S1x1 .f32) (harg5 : arg5.IsWhole) (arg6 : Memref sig .tc .vmem S4x2x1024 .f32) (harg6 : arg6.IsWhole) (arg7 : Memref sig .tc .vmem S1x256x1 .f32) (harg7 : arg7.IsWhole) (arg8 : Memref sig .tc .smem S1 .f32) (harg8 : arg8.IsWhole) (arg9 : Memref sig .tc .smem S2 .f32) (harg9 : arg9.IsWhole) (arg10 : Memref sig .tc .smem S1 .i32) (harg10 : arg10.IsWhole) (hc0 : ¬isFirst i) (hc2 : isLater i) (hc3 : k0_cond4 i = 1#1)
    (x0 : Vec F S2x256x1024 .f32) (x1 : Vec F S2048x256 .f32) (d6 : Vec F S4x2x1024 .f32) (v : Vec F S1x256x1 .f32) (acc lo hi : Elt F .f32) (j : Elt F .i32)
    (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare d6 ∗ owns (c : Thread nD τ) arg7 fullShare v ∗ owns (c : Thread nD τ) arg8 fullShare (fun _ => acc) ∗ owns (c : Thread nD τ) arg9 fullShare (two lo hi) ∗ owns (c : Thread nD τ) arg10 fullShare (fun _ => j)
            ∗ (iprop(owns (c : Thread nD τ) arg1 fullShare x0 ∗ owns (c : Thread nD τ) arg2 fullShare x1 ∗ owns (c : Thread nD τ) arg3 fullShare (k0_pay11 x0 v) ∗ owns (c : Thread nD τ) arg4 fullShare (k0_pay7 (VecWindow.put d6 (k0_off1 i) S1x2x1024.size (k0_pay12 x0)) (k0_pay5 (k0_pay14 x1) lo) (k0_pay4 (k0_pay15 x1) hi) (Scalar.select (Scalar.cmpf .olt (k0_pay14 x1) lo) (argIn i x1) j)) ∗ owns (c : Thread nD τ) arg5 fullShare (fun _ => k0_pay6 (k0_pay3 (k0_pay10 x0 v) acc)) ∗ owns (c : Thread nD τ) arg6 fullShare (VecWindow.put d6 (k0_off1 i) S1x2x1024.size (k0_pay12 x0)) ∗ owns (c : Thread nD τ) arg7 fullShare v ∗ owns (c : Thread nD τ) arg8 fullShare (fun _ => (k0_pay3 (k0_pay10 x0 v) acc)) ∗ owns (c : Thread nD τ) arg9 fullShare (two (k0_pay5 (k0_pay14 x1) lo) (k0_pay4 (k0_pay15 x1) hi)) ∗ owns (c : Thread nD τ) arg10 fullShare (fun _ => (Scalar.select (Scalar.cmpf .olt (k0_pay14 x1) lo) (argIn i x1) j))) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10) K := by
    simp only [cc0__vq_kernel_eq_skeleton]; unfold cc0__vq_kernel_skel
    simp only [k0_part1_eq_skeleton]
    unfold owns
    iintro ⟨⟨%f0, %hf0, H0⟩, ⟨%f1, %hf1, H1⟩, ⟨%d2, %f2, -, H2⟩, ⟨%d4, %f4, -, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc2 | sl_exact hc3)
    sl_step
    have e0 : runC.sl.r c arg1 harg1 arg7 harg7 x0 v = k0_pay10 x0 v := by
      unfold runC.sl.r; rw [View.readAt_full, View.readAt_full, hf0, hf7]
    have e1 : runC.sl.r_1 c arg2 harg2 x1 = k0_pay14 x1 := by unfold runC.sl.r_1; rw [View.readAt_full, hf1]
    have e2 : runC.sl.r_2 c arg2 harg2 x1 = k0_pay15 x1 := by unfold runC.sl.r_2; rw [View.readAt_full, hf1]
    have e3 : runC.sl.r_3 c arg2 harg2 x1 = k0_pay17 x1 := by unfold runC.sl.r_3; rw [View.readAt_full, hf1]
    have e4 : runC.sl.r_4 c arg8 harg8 acc = acc := by unfold runC.sl.r_4; rw [load_at]
    have e5 : runC.sl.r_5 c arg9 harg9 lo hi = hi := by unfold runC.sl.r_5; rw [load_at]; rfl
    have e6 : runC.sl.r_6 c arg9 harg9 lo hi = lo := by unfold runC.sl.r_6 runC.sl.f; rw [load_at]; rfl
    have e7 : runC.sl.r_7 c arg10 harg10 j = j := by unfold runC.sl.r_7; rw [load_at]
    iapply Hk
    isplitl [H0]
    · iexists _; isplitr
      · ipureintro; exact hf0
      · iexact H0
    isplitl [H1]
    · iexists _; isplitr
      · ipureintro; exact hf1
      · iexact H1
    isplitl [H2]
    · iexists _; isplitr
      swap; · iexact H2
      ipureintro
      rw [View.readAt_full, View.readAt_full, hf0, hf7]
      exact View.read_writes_full _ _ _ _ _
    isplitl [H4]
    · iexists _; isplitr
      swap; · iexact H4
      ipureintro
      refine (View.read_writes_full (s := S4x2x1024) _ _ inb_S4x2x1024_S4x2x1024_0_0_0 _ _).trans ?_
      unfold runC.sl.v59 runC.sl.r_10 runC.sl.r_11 runC.sl.r_12 runC.sl.H6_1
      rw [View.readAt_full (s := S4x2x1024), View.read_writes_cons_put _ _ _ _ _ rfl, View.writes_nil, hf6, View.readAt_full, hf0, e1, e2, e3, e5, e6, e7]
      rfl
    isplitl [H5]
    · iexists _; isplitr
      swap; · iexact H5
      ipureintro
      refine (View.read_writes_full (s := S1x1) _ _ inb_S1x1_S1x1_0_0 _ _).trans ?_
      unfold runC.sl.r_8
      rw [e0, e4]
      try rfl
    isplitl [H6]
    · iexists _; isplitr
      swap; · iexact H6
      ipureintro
      unfold runC.sl.H6_1
      rw [View.read_writes_cons_put _ _ _ _ _ rfl, View.writes_nil, hf6, View.readAt_full, hf0]
    isplitl [H7]
    · iexists _; isplitr
      · ipureintro; exact hf7
      · iexact H7
    isplitl [H8]
    · iexists _; isplitr
      swap; · iexact H8
      ipureintro
      refine (View.read_writes_full (s := S1) _ _ inb_S1_S1_0 _ _).trans ?_
      rw [e0, e4]
      try rfl
    isplitl [H9]
    · iexists _; isplitr
      swap; · iexact H9
      ipureintro
      refine (read_two _ _ inb_S2_S1_0 inb_S2_S1_1 _ _).trans ?_
      rw [e1, e2, e5, e6]
    · iexists _; isplitr
      swap; · iexact H10
      ipureintro
      refine (View.read_writes_full (s := S1) _ _ inb_S1_S1_0 _ _).trans ?_
      rw [e1, e3, e6, e7]
      rfl

end Cert.KernelIdeal.Hand
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Body
public import Idealize.ShloMosaic.Lib.VecWindow
public import Idealize.ShloMosaic.Lib.Pointwise
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The running values, as functions of the blocks -/

/-- Point `n` of the grid (`n` below 4). -/
def pt (n : ℕ) : Fin cfg0.N := ⟨n % 4, by have : cfg0.N = 4 := N_0; omega⟩

theorem pt_val (t : Fin cfg0.N) : pt t.val = t := by
  have h : t.val < 4 := lt_of_lt_of_eq t.isLt (show cfg0.N = 4 from N_0)
  exact Fin.ext (Nat.mod_eq_of_lt h)

section States
variable (Z : ℕ → Vec F S2x256x1024 .f32) (W : ℕ → Vec F S2048x256 .f32)

/-- The running sum of squares after point `n`. -/
def accSt : ℕ → Elt F .f32
  | 0 => k0_pay2 (k0_pay10 (Z 0) (k0_pay9 (Z 0)))
  | n + 1 => k0_pay3 (k0_pay10 (Z (n + 1)) (k0_pay9 (Z 0))) (accSt n)

/-- The smallest norm of the table's rows seen up to point `n`. -/
def loSt : ℕ → Elt F .f32
  | 0 => k0_pay14 (W 0)
  | n + 1 => k0_pay5 (k0_pay14 (W (n + 1))) (loSt n)

/-- The largest norm of the table's rows seen up to point `n`. -/
def hiSt : ℕ → Elt F .f32
  | 0 => k0_pay15 (W 0)
  | n + 1 => k0_pay4 (k0_pay15 (W (n + 1))) (hiSt n)

/-- The row of the smallest norm seen up to point `n`. -/
def argSt : ℕ → Elt F .i32
  | 0 => argIn (grid0.coords (pt 0)) (W 0)
  | n + 1 => Scalar.select (Scalar.cmpf .olt (k0_pay14 (W (n + 1))) (loSt W n)) (argIn (grid0.coords (pt (n + 1))) (W (n + 1))) (argSt n)

theorem accSt_succ (n : ℕ) : accSt Z (n + 1) = k0_pay3 (k0_pay10 (Z (n + 1)) (k0_pay9 (Z 0))) (accSt Z n) := rfl
theorem loSt_succ (n : ℕ) : loSt W (n + 1) = k0_pay5 (k0_pay14 (W (n + 1))) (loSt W n) := rfl
theorem hiSt_succ (n : ℕ) : hiSt W (n + 1) = k0_pay4 (k0_pay15 (W (n + 1))) (hiSt W n) := rfl
theorem argSt_succ (n : ℕ) : argSt W (n + 1)
    = Scalar.select (Scalar.cmpf .olt (k0_pay14 (W (n + 1))) (loSt W n)) (argIn (grid0.coords (pt (n + 1))) (W (n + 1))) (argSt W n) := rfl

/-- The norms of all positions, slice `n` from block `n`. -/
def norms : Vec F S4x2x1024 .f32 := fun y => k0_pay12 (Z (y 0).val) (ix3 0 (y 1) (y 2))

/-- The first `n` slices of the norms' buffer are filled. -/
def Filled (n : ℕ) (d : Vec F S4x2x1024 .f32) : Prop := ∀ y, (y 0).val < n → d y = norms Z y

theorem off_eq : ∀ t : Fin cfg0.N, k0_off1 (grid0.coords t) = ![t.val, 0, 0] :=
  (by decide +kernel : ∀ t : Fin grid0.N, k0_off1 (grid0.coords t) = ![t.val, 0, 0])

/-- Storing block `t`'s norms in slice `t` fills one slice more. -/
theorem filled_put (t : Fin cfg0.N) (d : Vec F S4x2x1024 .f32) (h : Filled Z t.val d) :
    Filled Z (t.val + 1) (VecWindow.put d (k0_off1 (grid0.coords t)) S1x2x1024.size (k0_pay12 (Z t.val))) := by
  intro y hy
  rw [off_eq]
  unfold VecWindow.put
  split_ifs with hin
  · have h0 : (y 0).val = t.val := by have := (hin 0).1; simp at this; omega
    unfold norms
    rw [h0]
    congr 1
    funext a
    apply Fin.ext
    fin_cases a
    · show (y 0).val - t.val = 0
      omega
    · rfl
    · rfl
  · refine h y ?_
    by_contra hge
    refine hin fun a => ?_
    fin_cases a
    · show t.val ≤ (y 0).val ∧ (y 0).val < t.val + 1
      omega
    · exact ⟨Nat.zero_le _, by simpa using (y 1).isLt⟩
    · exact ⟨Nat.zero_le _, by simpa using (y 2).isLt⟩

theorem filled_all (d : Vec F S4x2x1024 .f32) (h : Filled Z 4 d) : d = norms Z := funext fun y => h y (y 0).isLt

end States

/-! ## The conditions over the grid -/

theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ t.val ≠ 0 :=
  (by decide +kernel : ∀ t : Fin grid0.N, isLater (grid0.coords t) ↔ t.val ≠ 0)
theorem isLast_iff : ∀ t : Fin cfg0.N, k0_cond4 (grid0.coords t) = 1#1 ↔ t.val = 3 :=
  (by decide +kernel : ∀ t : Fin grid0.N, k0_cond4 (grid0.coords t) = 1#1 ↔ t.val = 3)

/-! ## The scratch buffers, the invariant and the proof data -/

abbrev scr0 : Memref sig .tc .vmem S4x2x1024 .f32 := Memref.whole cc0_scratch0
abbrev scr1 : Memref sig .tc .vmem S1x256x1 .f32 := Memref.whole cc0_scratch1
abbrev scr2 : Memref sig .tc .smem S1 .f32 := Memref.whole cc0_scratch2
abbrev scr3 : Memref sig .tc .smem S2 .f32 := Memref.whole cc0_scratch3
abbrev scr4 : Memref sig .tc .smem S1 .i32 := Memref.whole cc0_scratch4

/-- What the launch hands the region: the five scratch buffers and the generator's register, each at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; rfl

variable (m : (ℓ : Loc nD τ sig) → Buf (Elt F) ℓ) (ρ : Dev nD → PrngReg) (c : Dev nD)

/-- Block `n` of the first argument. -/
def zb (n : ℕ) : Vec F S2x256x1024 .f32 := iblk m c 0 (pt n)
/-- Block `n` of the table. -/
def wb (n : ℕ) : Vec F S2048x256 .f32 := iblk m c 1 (pt n)

theorem zb_val (t : Fin cfg0.N) : zb m c t.val = iblk m c 0 t := by unfold zb; rw [pt_val]
theorem wb_val (t : Fin cfg0.N) : wb m c t.val = iblk m c 1 t := by unfold wb; rw [pt_val]

/-- The state between points: before the first anything; after point `n` the norms' buffer filled up to slice `n`, row 0, and the
    running values after point `n`. -/
def PhiS : ℕ → sProp 𝕄
  | 0 => Pipeline.ΦA spec0 c
  | n + 1 => iprop(iprop((∃ d, ⌜Filled (zb m c) (n + 1) d⌝ ∗ owns (c : Thread nD τ) scr0 fullShare d) ∗ owns (c : Thread nD τ) scr1 fullShare (k0_pay9 (zb m c 0)) ∗ owns (c : Thread nD τ) scr2 fullShare (fun _ => accSt (zb m c) n) ∗ owns (c : Thread nD τ) scr3 fullShare (two (loSt (wb m c) n) (hiSt (wb m c) n)) ∗ owns (c : Thread nD τ) scr4 fullShare (fun _ => argSt (wb m c) n)) ∗ (∃ r, prngReg c r))

/-- What the body leaves in the window of the first result at point `t`. -/
def out2 (t : Fin cfg0.N) : Vec F S2x256x1024 .f32 := k0_pay11 (zb m c t.val) (k0_pay9 (zb m c 0))
/-- What the last point leaves in the window of the indices. -/
def out3 : Vec F S4x2x1024 .i32 := k0_pay7 (norms (zb m c)) (loSt (wb m c) 3) (hiSt (wb m c) 3) (argSt (wb m c) 3)
/-- What the last point leaves in the window of the loss. -/
def out4 : Vec F S1x1 .f32 := fun _ => k0_pay6 (accSt (zb m c) 3)

/-- The proof data of the one pipeline: the arrays as the region finds them, and each window after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 m c t
    | ⟨3, _⟩ => out3 m c
    | ⟨4, _⟩ => out4 m c
  Φ t := PhiS m c t.val
  q _ := fullShare
  owed _ := 0

theorem A_eq (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = out2 m c t := by dsimp only [dats]
theorem after_3 (t : Fin cfg0.N) : (dats m 0 c).after 3 t = out3 m c := by dsimp only [dats]
theorem after_4 (t : Fin cfg0.N) : (dats m 0 c).after 4 t = out4 m c := by dsimp only [dats]
theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d

theorem leaves_0 (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (t : Fin cfg0.N) : (dats m 0 c).leavesExact 2 t = owns (c : Thread nD τ) (win0_2.stage (cfg0.slots t 2)) fullShare (out2 m c t) := by
  unfold Dat.leavesExact; rw [show cfg0.idle 2 (grid0.coords t) = false from rfl, after_2]

theorem idle_3 : ∀ t : Fin cfg0.N, t.val ≠ 3 → cfg0.idle 3 (grid0.coords t) = true ∧ (cfg0.win 3).flush t = false :=
  (by decide +kernel : ∀ t : Fin grid0.N, t.val ≠ 3 → cfg0.idle 3 (grid0.coords t) = true ∧ (cfg0.win 3).flush t = false)
theorem idle_4 : ∀ t : Fin cfg0.N, t.val ≠ 3 → cfg0.idle 4 (grid0.coords t) = true ∧ (cfg0.win 4).flush t = false :=
  (by decide +kernel : ∀ t : Fin grid0.N, t.val ≠ 3 → cfg0.idle 4 (grid0.coords t) = true ∧ (cfg0.win 4).flush t = false)
theorem live_3 : ∀ t : Fin cfg0.N, t.val = 3 → cfg0.idle 3 (grid0.coords t) = false :=
  (by decide +kernel : ∀ t : Fin grid0.N, t.val = 3 → cfg0.idle 3 (grid0.coords t) = false)
theorem live_4 : ∀ t : Fin cfg0.N, t.val = 3 → cfg0.idle 4 (grid0.coords t) = false :=
  (by decide +kernel : ∀ t : Fin grid0.N, t.val = 3 → cfg0.idle 4 (grid0.coords t) = false)

theorem leaves_3_last (t : Fin cfg0.N) (h : t.val = 3) : (dats m 0 c).leavesExact 3 t = owns (c : Thread nD τ) (win0_3.stage (cfg0.slots t 3)) fullShare (out3 m c) := by
  unfold Dat.leavesExact; rw [live_3 t h, after_3]
theorem leaves_4_last (t : Fin cfg0.N) (h : t.val = 3) : (dats m 0 c).leavesExact 4 t = owns (c : Thread nD τ) (win0_4.stage (cfg0.slots t 4)) fullShare (out4 m c) := by
  unfold Dat.leavesExact; rw [live_4 t h, after_4]

/-! ## The body obligation -/

/-- What the body is called with at point `t`, window by window, -/
def bodyPre (t : Fin cfg0.N) : sProp 𝕄 :=
  iprop(PhiS m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (t : Fin cfg0.N) : sProp 𝕄 :=
  iprop(PhiS m c (t.val + 1) ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
/-- The first point. -/
theorem body_first (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1]
  have h3 : t.val ≠ 3 := by omega
  rw [leaves_0, leaves_1, leaves_2, (dats m 0 c).leavesExact_idle 3 t (idle_3 t h3).1 (idle_3 t h3).2, (dats m 0 c).leavesExact_idle 4 t (idle_4 t h3).1 (idle_4 t h3).2]
  have hz := zb_val m c t
  have hw := wb_val m c t
  have hp := pt_val t
  rw [ht] at hz hw hp
  unfold out2
  rw [← hz, ← hw, ht]
  unfold PhiS
  rw [PhiA_eq]
  iintro ⟨⟨⟨⟨%e0, HS0⟩, HS1, HS2, HS3, HS4⟩, Hg⟩, Ho, ⟨%d0, H0⟩, ⟨%d1, H1⟩, ⟨%d2, H2⟩, H3, H4⟩
  iapply (runA c (grid0.coords t) _ _ _ _ _ _ _ _ _ _ _ _ _ _ _ _ _ _ _ _ ((isFirst_iff t).mpr ht) (fun h => (isLater_iff t).mp h ht) (fun h => h3 ((isLast_iff t).mp h)) (zb m c 0) (wb m c 0) e0 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  iintro ⟨H0, H1, H2, HS0, HS1, HS2, HS3, HS4⟩
  isplitl [HS0 HS1 HS2 HS3 HS4 Hg]
  · isplitl [HS0 HS1 HS2 HS3 HS4]
    · isplitl [HS0]
      · iexists _; isplitr
        swap; · iexact HS0
        ipureintro
        have := filled_put (zb m c) t e0 (fun y hy => absurd hy (by omega))
        rw [ht] at this
        exact this
      isplitl [HS1]; · iexact HS1
      isplitl [HS2]; · iexact HS2
      isplitl [HS3]; · iexact HS3
      rw [← hp]
      iexact HS4
    iexact Hg
  isplitl [Ho]; · iexact Ho
  isplitl [H0]; · iexact H0
  isplitl [H1]; · iexact H1
  isplitl [H2]; · iexact H2
  isplitl [H3]; · iexact H3
  iexact H4

set_option maxHeartbeats 3200000 in
/-- A point between the first and the last. -/
theorem body_mid (t : Fin cfg0.N) (n : ℕ) (hn : t.val = n + 1) (h3 : t.val ≠ 3) :
    bodyPre m c t ⊢ wp frame (wpE (defs₀ (F := F)) Variants.none c none) Set.univ (bodyAt0 t) (fun _ => bodyPost m c t) := by
  unfold bodyPre bodyPost bodyAt0
  simp only [before_0, before_1]
  rw [leaves_0, leaves_1, leaves_2, (dats m 0 c).leavesExact_idle 3 t (idle_3 t h3).1 (idle_3 t h3).2, (dats m 0 c).leavesExact_idle 4 t (idle_4 t h3).1 (idle_4 t h3).2]
  have h0 : t.val ≠ 0 := by omega
  have hz := zb_val m c t
  have hw := wb_val m c t
  have hp := pt_val t
  unfold out2
  rw [← hz, ← hw]
  rw [hn] at hp
  have hf := filled_put (zb m c) t
  rw [hn] at hf ⊢
  unfold PhiS
  iintro ⟨⟨⟨⟨%e0, %he, HS0⟩, HS1, HS2, HS3, HS4⟩, Hg⟩, Ho, ⟨%d0, H0⟩, ⟨%d1, H1⟩, ⟨%d2, H2⟩, H3, H4⟩
  iapply (runB c (grid0.coords t) _ _ _ _ _ _ _ _ _ _ _ _ _ _ _ _ _ _ _ _ (fun h => h0 ((isFirst_iff t).mp h)) ((isLater_iff t).mpr h0) (fun h => h3 ((isLast_iff t).mp h)) (zb m c (n + 1)) (wb m c (n + 1)) e0 (k0_pay9 (zb m c 0)) (accSt (zb m c) n) (loSt (wb m c) n) (hiSt (wb m c) n) (argSt (wb m c) n) Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  iintro ⟨H0, H1, H2, HS0, HS1, HS2, HS3, HS4⟩
  isplitl [HS0 HS1 HS2 HS3 HS4 Hg]
  · isplitl [HS0 HS1 HS2 HS3 HS4]
    · isplitl [HS0]
      · iexists _; isplitr
        swap; · iexact HS0
        ipureintro
        exact hf e0 he
      isplitl [HS1]; · iexact HS1
      isplitl [HS2]
      · rw [accSt_succ]
        iexact HS2
      isplitl [HS3]
      · rw [loSt_succ, hiSt_succ]
        iexact HS3
      rw [argSt_succ]
      rw [hp]
      iexact HS4
    iexact Hg
  isplitl [Ho]; · iexact Ho
  isplitl [H0]; · iexact H0
  isplitl [H1]; · iexact H1
  isplitl [H2]; · iexact H2
  isplitl [H3]; · iexact H3
  iexact H4

set_option maxHeartbeats 3200000 in
/-- The last point. -/
theorem body_last (t : Fin cfg0.N) (n : ℕ) (hn : t.val = n + 1) (h3 : t.val = 3) :
    bodyPre m c t ⊢ wp frame (wpE (defs₀ (F := F)) Variants.none c none) Set.univ (bodyAt0 t) (fun _ => bodyPost m c t) := by
  unfold bodyPre bodyPost bodyAt0
  simp only [before_0, before_1]
  rw [leaves_0, leaves_1, leaves_2, leaves_3_last m c t h3, leaves_4_last m c t h3]
  have h0 : t.val ≠ 0 := by omega
  have hz := zb_val m c t
  have hw := wb_val m c t
  have hp := pt_val t
  unfold out2
  rw [← hz, ← hw]
  rw [hn] at hp
  have hf := filled_put (zb m c) t
  rw [hn] at hf ⊢
  have h2 : n = 2 := by omega
  have hall : ∀ e0 : Vec F S4x2x1024 .f32, Filled (zb m c) (n + 1) e0 → VecWindow.put e0 (k0_off1 (grid0.coords t)) S1x2x1024.size (k0_pay12 (zb m c (n + 1))) = norms (zb m c) :=
    fun e0 he => by
      have h := hf e0 he
      rw [show n + 1 + 1 = 4 by omega] at h
      exact filled_all (zb m c) _ h
  unfold PhiS
  iintro ⟨⟨⟨⟨%e0, %he, HS0⟩, HS1, HS2, HS3, HS4⟩, Hg⟩, Ho, ⟨%d0, H0⟩, ⟨%d1, H1⟩, ⟨%d2, H2⟩, ⟨%d3, H3⟩, ⟨%d4, H4⟩⟩
  iapply (runC c (grid0.coords t) _ _ _ _ _ _ _ _ _ _ _ _ _ _ _ _ _ _ _ _ (fun h => h0 ((isFirst_iff t).mp h)) ((isLater_iff t).mpr h0) ((isLast_iff t).mpr h3) (zb m c (n + 1)) (wb m c (n + 1)) e0 (k0_pay9 (zb m c 0)) (accSt (zb m c) n) (loSt (wb m c) n) (hiSt (wb m c) n) (argSt (wb m c) n) Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 Hg]
  · isplitl [HS0 HS1 HS2 HS3 HS4]
    · isplitl [HS0]
      · iexists _; isplitr
        swap; · iexact HS0
        ipureintro
        exact hf e0 he
      isplitl [HS1]; · iexact HS1
      isplitl [HS2]
      · rw [accSt_succ]
        iexact HS2
      isplitl [HS3]
      · rw [loSt_succ, hiSt_succ]
        iexact HS3
      rw [argSt_succ]
      rw [hp]
      iexact HS4
    iexact Hg
  isplitl [Ho]; · iexact Ho
  isplitl [H0]; · iexact H0
  isplitl [H1]; · iexact H1
  isplitl [H2]; · iexact H2
  isplitl [H3]
  · rw [hall e0 he]
    subst h2
    rw [show out3 m c = k0_pay7 (norms (zb m c)) (loSt (wb m c) (2 + 1)) (hiSt (wb m c) (2 + 1)) (argSt (wb m c) (2 + 1)) from rfl,
      loSt_succ (wb m c) 2, hiSt_succ (wb m c) 2, argSt_succ (wb m c) 2, hp]
    iexact H3
  subst h2
  rw [show out4 m c = fun _ => k0_pay6 (accSt (zb m c) (2 + 1)) from rfl, accSt_succ (zb m c) 2]
  iexact H4

/-- The body at any point. -/
theorem sound_body (t : Fin cfg0.N) :
    bodyPre m c t ⊢ wp frame (wpE (defs₀ (F := F)) Variants.none c none) Set.univ (bodyAt0 t) (fun _ => bodyPost m c t) := by
  rcases h : t.val with _ | n
  · exact body_first m c t h
  · by_cases h3 : t.val = 3
    · exact body_last m c t n h h3
    · exact body_mid m c t n h h3

/-- The body table's row at point `t` is the body there. -/
theorem row_eq (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, row_eq]
  exact triple_restated (sound_body m c t) rfl .rfl fun _ => .rfl

/-- Before the first point the state is what the launch hands over. -/
theorem hin : Pipeline.ΦA spec0 c ⊢ (dats m 0 c).Φ 0 := .rfl

/-- After the last point the state gives the scratch buffers back at some contents. -/
theorem hout : (dats m 0 c).Φ (Fin.last cfg0.N) ⊢ Pipeline.ΦA spec0 c := by
  rw [show (dats m 0 c).Φ (Fin.last cfg0.N) = PhiS m c (3 + 1) from rfl, PhiA_eq]
  unfold PhiS
  iintro ⟨⟨⟨%e0, %he, HS0⟩, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-! ## The run -/

set_option backward.isDefEq.respectTransparency.types false in
set_option maxHeartbeats 800000 in
/-- The program runs; at the end every array of the pipeline holds what the points left in it, the lines after it have run, and every
    semaphore counter is zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.KernelIdeal.Hand
-- ==== Proof.First.lean ====
module

public import Idealize.ShloMosaic.Lib.Pointwise

@[expose] public section

/-!
  Least elements and where they first stand: the notion both programs' nearest-code index is read by,
  and what a fold that always keeps one of its two operands leaves.
-/

namespace Cert.First

open Idealize.ShloMosaic

/-- `j` is the first place below `N` at which `b` is least. -/
def FirstMin (b : ℕ → EReal) (N j : ℕ) : Prop := j < N ∧ (∀ i < N, b j ≤ b i) ∧ ∀ i < j, b j < b i

/-- There is at most one first place. -/
theorem FirstMin.unique {b : ℕ → EReal} {N j k : ℕ} (hj : FirstMin b N j) (hk : FirstMin b N k) : j = k := by
  rcases lt_trichotomy j k with h | h | h
  · exact absurd (hk.2.2 j h) (not_lt.2 (hj.2.1 k hk.1))
  · exact h
  · exact absurd (hj.2.2 k h) (not_lt.2 (hk.2.1 j hj.1))

/-- A stretch of places after another: the first least place of both together is the first stretch's, unless the
    second stretch's least value is strictly below it. -/
theorem FirstMin.append {b : ℕ → EReal} {N M j k : ℕ} (hj : FirstMin b N j)
    (hk : FirstMin (fun i => b (N + i)) M k) :
    FirstMin b (N + M) (if b (N + k) < b j then N + k else j) := by
  obtain ⟨hj1, hj2, hj3⟩ := hj
  obtain ⟨hk1, hk2, hk3⟩ := hk
  have tail : ∀ i < N + M, ¬ i < N → b (N + k) ≤ b i := fun i hi hn => by
    have := hk2 (i - N) (by omega)
    simp only at this
    rwa [show N + (i - N) = i by omega] at this
  by_cases h : b (N + k) < b j
  · rw [if_pos h]
    refine ⟨by omega, fun i hi => ?_, fun i hi => ?_⟩
    · by_cases hn : i < N
      · exact h.le.trans (hj2 i hn)
      · exact tail i hi hn
    · by_cases hn : i < N
      · exact h.trans_le (hj2 i hn)
      · have := hk3 (i - N) (by omega)
        simp only [show N + (i - N) = i by omega] at this
        exact this
  · rw [if_neg h]
    refine ⟨by omega, fun i hi => ?_, hj3⟩
    by_cases hn : i < N
    · exact hj2 i hn
    · exact (not_lt.1 h).trans (tail i hi hn)

/-- A strictly increasing change of the values leaves the first least place where it is. -/
theorem FirstMin.map {b d : ℕ → EReal} {N j : ℕ} (hj : FirstMin b N j)
    (hd : ∀ i < N, ∀ k < N, (b i < b k ↔ d i < d k)) : FirstMin d N j := by
  refine ⟨hj.1, fun i hi => ?_, fun i hi => (hd j hj.1 i (hi.trans hj.1)).1 (hj.2.2 i hi)⟩
  by_contra h
  exact absurd ((hd i hi j hj.1).2 (not_le.1 h)) (not_lt.2 (hj.2.1 i hi))

/-- Where all values below `N` are the same the first least place is the start. -/
theorem FirstMin.eq_zero {b : ℕ → EReal} {N j : ℕ} (hj : FirstMin b N j) (hc : ∀ i < N, b i ≤ b j) : j = 0 := by
  by_contra h
  exact absurd (hj.2.2 0 (by omega)) (not_lt.2 (hc 0 (by have := hj.1; omega)))

/-- A small natural number survives the passage through a signed 32-bit word. -/
theorem toInt_small {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

section Folds
variable {ι β : Type} (op : β → β → β) (R : β → β → Prop)

/-- A fold over a finite set of an operation that keeps one of its operands, the one related to both: the result is
    the initial value or one of the entries, and is related to all of them. -/
theorem fold_pick [Std.Commutative op] [Std.Associative op] (hr : ∀ a, R a a) (ht : ∀ a b c, R a b → R b c → R a c)
    (hop : ∀ a b, (op a b = a ∨ op a b = b) ∧ R (op a b) a ∧ R (op a b) b) (s : Finset ι) (init : β) (f : ι → β) :
    (s.fold op init f = init ∨ ∃ k ∈ s, s.fold op init f = f k) ∧ R (s.fold op init f) init
      ∧ ∀ k ∈ s, R (s.fold op init f) (f k) := by
  classical
  induction s using Finset.cons_induction with
  | empty => simp [hr]
  | cons a s ha ih =>
    rw [Finset.fold_cons]
    obtain ⟨h1, h2, h3⟩ := hop (f a) (s.fold op init f)
    obtain ⟨i1, i2, i3⟩ := ih
    refine ⟨?_, ht _ _ _ h3 i2, fun k hk => ?_⟩
    · rcases h1 with h | h
      · exact .inr ⟨a, Finset.mem_cons_self a s, h⟩
      · rw [h]
        rcases i1 with i | ⟨k, hk, i⟩
        · exact .inl i
        · exact .inr ⟨k, Finset.mem_cons_of_mem hk, i⟩
    · rcases Finset.mem_cons.1 hk with rfl | hk
      · exact h2
      · exact ht _ _ _ h3 (i3 k hk)

/-- The same of a fold over a whole finite type. -/
theorem fold_univ_pick [Fintype ι] [Std.Commutative op] [Std.Associative op] (hr : ∀ a, R a a)
    (ht : ∀ a b c, R a b → R b c → R a c) (hop : ∀ a b, (op a b = a ∨ op a b = b) ∧ R (op a b) a ∧ R (op a b) b)
    (init : β) (f : ι → β) :
    (Finset.univ.fold op init f = init ∨ ∃ k, Finset.univ.fold op init f = f k)
      ∧ ∀ k, R (Finset.univ.fold op init f) (f k) := by
  obtain ⟨h1, -, h3⟩ := fold_pick op R hr ht hop Finset.univ init f
  exact ⟨h1.imp id fun ⟨k, _, h⟩ => ⟨k, h⟩, fun k => h3 k (Finset.mem_univ k)⟩

/-- The same of a left fold along a list. -/
theorem foldl_pick (hr : ∀ a, R a a) (ht : ∀ a b c, R a b → R b c → R a c)
    (hop : ∀ a b, (op a b = a ∨ op a b = b) ∧ R (op a b) a ∧ R (op a b) b) (l : List β) (init : β) :
    (l.foldl op init = init ∨ l.foldl op init ∈ l) ∧ R (l.foldl op init) init ∧ ∀ p ∈ l, R (l.foldl op init) p := by
  induction l generalizing init with
  | nil => simp [hr]
  | cons a l ih =>
    rw [List.foldl_cons]
    obtain ⟨h1, h2, h3⟩ := hop init a
    obtain ⟨i1, i2, i3⟩ := ih (op init a)
    refine ⟨?_, ht _ _ _ i2 h2, fun p hp => ?_⟩
    · rcases i1 with i | i
      · rcases h1 with h | h
        · exact .inl (i.trans h)
        · exact .inr (by rw [i, h]; exact List.mem_cons_self)
      · exact .inr (List.mem_cons_of_mem _ i)
    · rcases List.mem_cons.1 hp with rfl | hp
      · exact ht _ _ _ i2 h3
      · exact i3 p hp

end Folds

/-- The order of value and index: smaller value first, at equal values the smaller index. -/
def Before (p q : EReal × BitVec 32) : Prop := p.1 < q.1 ∨ (p.1 = q.1 ∧ p.2.toInt ≤ q.2.toInt)

/-- The step of an arg-min over real numbers: keep the pair that comes before. -/
noncomputable def step (p q : EReal × BitVec 32) : EReal × BitVec 32 :=
  if p.1 < q.1 then p else if p.1 = q.1 then (if p.2.toInt < q.2.toInt then p else q) else q

/-- Every pair comes before itself. -/
theorem Before.refl (p : EReal × BitVec 32) : Before p p := .inr ⟨rfl, le_rfl⟩

/-- Coming before is transitive. -/
theorem Before.trans (p q r : EReal × BitVec 32) (h : Before p q) (h' : Before q r) : Before p r := by
  rcases h with h | ⟨h, k⟩ <;> rcases h' with h' | ⟨h', k'⟩
  · exact .inl (h.trans h')
  · exact .inl (h'.symm ▸ h)
  · exact .inl (h.symm ▸ h')
  · exact .inr ⟨h.trans h', k.trans k'⟩

/-- The step keeps one of its two pairs, the one that comes before both. -/
theorem step_pick (p q : EReal × BitVec 32) :
    (step p q = p ∨ step p q = q) ∧ Before (step p q) p ∧ Before (step p q) q := by
  unfold step
  split_ifs with h h' h''
  · exact ⟨.inl rfl, .refl _, .inl h⟩
  · exact ⟨.inl rfl, .refl _, .inr ⟨h', h''.le⟩⟩
  · exact ⟨.inr rfl, .inr ⟨h'.symm, not_lt.1 h''⟩, .refl _⟩
  · exact ⟨.inr rfl, .inl (lt_of_le_of_ne (not_lt.1 h) (Ne.symm h')), .refl _⟩

/-- An arg-min's fold over a list of (value, index) pairs, all values below the top element: the index it leaves is
    the first place of the least value. -/
theorem foldl_step {N : ℕ} (hN : 0 < N) (hN' : N ≤ 2 ^ 31) (b : ℕ → EReal) (hb : ∀ i < N, b i < ⊤)
    (l : List (EReal × BitVec 32)) (hl : ∀ p, p ∈ l ↔ ∃ i < N, p = (b i, BitVec.ofNat 32 i)) :
    ∃ j, FirstMin b N j ∧ l.foldl step (⊤, 0#32) = (b j, BitVec.ofNat 32 j) := by
  obtain ⟨h1, -, h3⟩ := foldl_pick step Before .refl .trans step_pick l (⊤, 0#32)
  have h0 := h3 _ ((hl _).2 ⟨0, hN, rfl⟩)
  rcases h1 with h | h
  · rw [h] at h0
    rcases h0 with h0 | ⟨h0, -⟩
    · exact absurd h0 not_top_lt
    · exact absurd h0.symm (hb 0 hN).ne
  · obtain ⟨j, hj, e⟩ := (hl _).1 h
    refine ⟨j, ⟨hj, fun i hi => ?_, fun i hi => ?_⟩, e⟩
    · have := h3 _ ((hl _).2 ⟨i, hi, rfl⟩)
      rw [e] at this
      rcases this with h | ⟨h, -⟩
      · exact h.le
      · exact h.le
    · have := h3 _ ((hl _).2 ⟨i, hi.trans hj, rfl⟩)
      rw [e] at this
      rcases this with h | ⟨-, h⟩
      · exact h
      · simp only [toInt_small (show j < 2 ^ 31 by omega), toInt_small (show i < 2 ^ 31 by omega)] at h
        omega

/-- A block of values with its least value `m`, and the fold of the signed minimum over the words that are an entry's
    place where the entry is `m` and a word past every place elsewhere: the fold leaves the first least place. -/
theorem fold_minsi {ι : Type} [Fintype ι] {N o : ℕ} (hN : 0 < N) (ho : o + N ≤ 8192) (b : ℕ → EReal)
    (hb : ∀ i < N, b i < ⊤) (pl : ι → ℕ) (hpl : ∀ k, pl k < N) (hsur : ∀ i < N, ∃ k, pl k = i)
    (x : ι → EReal) (hx : ∀ k, x k = b (pl k)) (w : ι → BitVec 32)
    (hw : ∀ k, w k = if x k = Finset.univ.fold min ⊤ x then BitVec.ofNat 32 (o + pl k) else 8192#32) :
    ∃ j, FirstMin b N j ∧ Finset.univ.fold min ⊤ x = b j
      ∧ Finset.univ.fold IntOp.minsi 2147483647#32 w = BitVec.ofNat 32 (o + j) := by
  obtain ⟨m1, m3⟩ := fold_univ_pick (min : EReal → EReal → EReal) (· ≤ ·) le_refl (fun _ _ _ => le_trans)
    (fun a b => ⟨(min_choice a b), min_le_left a b, min_le_right a b⟩) ⊤ x
  obtain ⟨w1, w3⟩ := fold_univ_pick (IntOp.minsi : BitVec 32 → BitVec 32 → BitVec 32) (fun a b => a.toInt ≤ b.toInt)
    (fun _ => le_rfl) (fun _ _ _ => le_trans) (fun a b => by
      unfold IntOp.minsi
      by_cases h : a.slt b = true
      · rw [if_pos h]; rw [BitVec.slt_iff_toInt_lt] at h; exact ⟨.inl rfl, le_rfl, h.le⟩
      · rw [if_neg h]; rw [BitVec.slt_iff_toInt_lt] at h; exact ⟨.inr rfl, not_lt.1 h, le_rfl⟩)
    2147483647#32 w
  generalize Finset.univ.fold min ⊤ x = m at *
  generalize Finset.univ.fold IntOp.minsi 2147483647#32 w = r at *
  have hk0 : ∃ k, m = x k := by
    rcases m1 with h | ⟨k, h⟩
    · obtain ⟨k, hk⟩ := hsur 0 hN
      have := m3 k
      rw [h, hx, hk] at this
      exact absurd (hb 0 hN) (not_lt.2 this)
    · exact ⟨k, h⟩
  have at_min : ∀ k, x k = m → r.toInt ≤ o + pl k := fun k hk => by
    have := w3 k
    rw [hw, if_pos hk, toInt_small (by have := hpl k; omega)] at this
    push_cast at this; exact this
  obtain ⟨k0, e0⟩ := hk0
  have b0 := at_min k0 e0.symm
  have p0 := hpl k0
  have hk : ∃ k, m = x k ∧ r = BitVec.ofNat 32 (o + pl k) := by
    rcases w1 with h | ⟨k, h⟩
    · rw [h, show (2147483647#32 : BitVec 32).toInt = 2147483647 by decide] at b0; omega
    · rw [hw] at h
      split_ifs at h with hc
      · exact ⟨k, hc.symm, h⟩
      · rw [h, show (8192#32 : BitVec 32).toInt = 8192 by decide] at b0; omega
  obtain ⟨k, ek, er⟩ := hk
  refine ⟨pl k, ⟨hpl k, fun i hi => ?_, fun i hi => ?_⟩, ek.trans (hx k), er⟩
  · obtain ⟨k', rfl⟩ := hsur i hi
    rw [← hx, ← hx, ← ek]; exact m3 k'
  · obtain ⟨k', hk'⟩ := hsur i (hi.trans (hpl k))
    have hle := m3 k'
    rw [← hk', ← hx, ← hx, ← ek]
    refine lt_of_le_of_ne hle fun he => ?_
    have := at_min k' he.symm
    rw [er, toInt_small (by have := hpl k; omega)] at this
    push_cast at this; omega

end Cert.First

end
-- ==== Proof.Reals.lean ====
module

public import Idealize.ShloMosaic.Lib.Pointwise

@[expose] public section

/-!
  The extended reals that are real numbers: what finite inputs and everything computed from them are, and the
  few identities of real arithmetic that fail at the infinities.
-/

namespace Cert.Reals

/-- The extended real is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (h : ∀ i, IsReal (f i)) : IsReal (∑ i ∈ s, f i) := by
  classical
  induction s using Finset.cons_induction with
  | empty => simpa using IsReal.zero
  | cons a s ha ih => rw [Finset.sum_cons]; exact (h a).add ih

theorem IsReal.lt_top {x : EReal} (hx : IsReal x) : x < ⊤ := by
  obtain ⟨a, rfl⟩ := hx
  exact EReal.coe_lt_top a

/-- A value whose magnitude is below the top element is a real number. -/
theorem IsReal.of_abs {x : EReal} (h : max x (-x) < ⊤) : IsReal x := by
  induction x with
  | bot => simp at h
  | top => simp at h
  | coe a => exact ⟨a, rfl⟩

/-- Moving from `z` to `v` by their difference arrives at `v`. -/
theorem add_sub_self {z v : EReal} (hz : IsReal z) (hv : IsReal v) : z + (v - z) = v := by
  obtain ⟨a, rfl⟩ := hz
  obtain ⟨b, rfl⟩ := hv
  rw [← EReal.coe_sub, ← EReal.coe_add]
  congr 1
  ring

/-- A common real summand cancels. -/
theorem add_cancel {a x y : EReal} (ha : IsReal a) (hx : IsReal x) (hy : IsReal y) : a + x = a + y ↔ x = y := by
  obtain ⟨a, rfl⟩ := ha
  obtain ⟨x, rfl⟩ := hx
  obtain ⟨y, rfl⟩ := hy
  rw [← EReal.coe_add, ← EReal.coe_add, EReal.coe_eq_coe_iff, EReal.coe_eq_coe_iff]
  constructor
  · intro h; linarith
  · intro h; rw [h]

/-- Adding a real number and taking another away keeps the order. -/
theorem shift_lt {a s x y : EReal} (ha : IsReal a) (hs : IsReal s) (hx : IsReal x) (hy : IsReal y) :
    x < y ↔ a + x - s < a + y - s := by
  obtain ⟨a, rfl⟩ := ha
  obtain ⟨s, rfl⟩ := hs
  obtain ⟨x, rfl⟩ := hx
  obtain ⟨y, rfl⟩ := hy
  rw [← EReal.coe_add, ← EReal.coe_add, ← EReal.coe_sub, ← EReal.coe_sub, EReal.coe_lt_coe_iff, EReal.coe_lt_coe_iff]
  constructor <;> intro h <;> linarith

theorem IsReal.sub {x y : EReal} (hx : IsReal x) (hy : IsReal y) : IsReal (x - y) := by
  obtain ⟨a, rfl⟩ := hx
  obtain ⟨b, rfl⟩ := hy
  exact ⟨a - b, (EReal.coe_sub a b).symm⟩

end Cert.Reals

end
-- ==== Proof.Codes.lean ====
module

public import proofs.«01_k».proof.Proof.Run
public import proofs.«01_k».proof.Proof.First
public import proofs.«01_k».proof.Proof.Reals

@[expose] public section

set_option maxRecDepth 16384

noncomputable section

/-!
  The kernel's running minimum, maximum and arg-min over the four blocks of the code table, read over the real
  numbers: after the last block they are the least and the greatest squared norm of a row and the first row at
  which the least one is reached.
-/

namespace Cert.KernelIdeal.Hand

open Idealize.ShloMosaic Cert.KernelIdeal Cert.KernelIdeal.Gen Cert.First Cert.Reals

/-- The squared norm of row `i` of the code table. -/
def rowSq (w : FVec Ideal S8192x256 .f32) (i : ℕ) : EReal :=
  ∑ k : Fin 256, w (ix2 ⟨i % 8192, Nat.mod_lt _ (by decide)⟩ k) * w (ix2 ⟨i % 8192, Nat.mod_lt _ (by decide)⟩ k)

theorem rowSq_real {w : FVec Ideal S8192x256 .f32} (hw : ∀ i, IsReal (w i)) (i : ℕ) : IsReal (rowSq w i) :=
  .sum _ fun _ => (hw _).mul (hw _)

/-- The grid's coordinate at point `n` is `n`. -/
theorem coord_pt (t : Fin cfg0.N) : (grid0.coords t 0).val = t.val :=
  (by decide +kernel : ∀ t : Fin grid0.N, (grid0.coords t 0).val = t.val) t

/-- What is said of the four blocks `W`: block `n` holds rows `2048 n` to `2048 n + 2047` of the table `w`. -/
def Blocked (w : FVec Ideal S8192x256 .f32) (W : ℕ → FVec Ideal S2048x256 .f32) : Prop :=
  ∀ n < 4, ∀ (k : Fin 2048) (l : Fin 256),
    W n (ix2 k l) = w (ix2 ⟨(2048 * n + k.val) % 8192, Nat.mod_lt _ (by decide)⟩ l)

section
variable {w : FVec Ideal S8192x256 .f32} {W : ℕ → FVec Ideal S2048x256 .f32} (hW : Blocked w W)
include hW

theorem block_sq {n : ℕ} (hn : n < 4) (k : Fin 2048) :
    ∑ l : Fin 256, W n (ix2 k l) * W n (ix2 k l) = rowSq w (2048 * n + k.val) :=
  Finset.sum_congr rfl fun l _ => by rw [hW n hn k l]

/-- One block: its least squared norm is reached first at `j`, and the word the block's arg-min leaves is that row's
    number in the whole table. -/
theorem block_first (hw : ∀ i, IsReal (w i)) {n : ℕ} (hn : n < 4) :
    ∃ j, FirstMin (fun i => rowSq w (2048 * n + i)) 2048 j
      ∧ k0_pay14 (F := Ideal) (W n) = rowSq w (2048 * n + j)
      ∧ argIn (F := Ideal) (grid0.coords (pt n)) (W n) = BitVec.ofNat 32 (2048 * n + j) := by
  have hlo : k0_pay14 (F := Ideal) (W n) = Finset.univ.fold min ⊤
      (fun x : Fin 2048 × Fin 1 => ∑ l : Fin 256, W n (ix2 x.1 l) * W n (ix2 x.1 l)) := by
    have htop : Ideal.ofBits .f32 0x7F800000#32 = ⊤ := by simp [Ideal.ofBits, Ideal.ieee]
    pointwise [k0_pay14, k0_pay13]
    rw [htop]
  have harg : argIn (F := Ideal) (grid0.coords (pt n)) (W n) = Finset.univ.fold IntOp.minsi 2147483647#32
      (fun x : Fin 2048 × Fin 1 => if ∑ l : Fin 256, W n (ix2 x.1 l) * W n (ix2 x.1 l) = k0_pay14 (F := Ideal) (W n)
        then BitVec.ofNat 32 (2048 * n + x.1.val) else 8192#32) := by
    have hadd : ∀ k : ℕ, IntOp.addi (BitVec.ofNat 32 k) (Scalar.muli (BitVec.ofNat 32 n) 2048#32)
        = BitVec.ofNat 32 (2048 * n + k) := fun k => by
      show BitVec.ofNat 32 k + BitVec.ofNat 32 n * BitVec.ofNat 32 2048 = _
      rw [← BitVec.ofNat_mul, ← BitVec.ofNat_add, Nat.mul_comm n, Nat.add_comm k]
    have hc : (grid0.coords (pt n) 0).val = n := (coord_pt (pt n)).trans (Nat.mod_eq_of_lt hn)
    pointwise [argIn, k0_pay1, k0_pay16, k0_pay17, k0_pay18, k0_pay13]
    simp only [hc, hadd]
  obtain ⟨j, h1, h2, h3⟩ := fold_minsi (ι := Fin 2048 × Fin 1) (N := 2048) (o := 2048 * n) (by decide) (by omega)
    (fun i => rowSq w (2048 * n + i)) (fun i _ => (rowSq_real hw _).lt_top) (fun k => k.1.val) (fun k => k.1.isLt)
    (fun i hi => ⟨(⟨i, hi⟩, 0), rfl⟩) (fun x => ∑ l : Fin 256, W n (ix2 x.1 l) * W n (ix2 x.1 l))
    (fun k => block_sq hW hn k.1) _ (fun k => rfl)
  refine ⟨j, h1, hlo.trans h2, harg.trans ?_⟩
  rw [hlo]
  exact h3

/-- The running minimum and arg-min after block `n`. -/
theorem first_upto (hw : ∀ i, IsReal (w i)) : ∀ n < 4, ∃ j, FirstMin (rowSq w) (2048 * (n + 1)) j
    ∧ loSt (F := Ideal) W n = rowSq w j ∧ argSt (F := Ideal) W n = BitVec.ofNat 32 j := by
  intro n
  induction n with
  | zero =>
    intro hn
    obtain ⟨j, h1, h2, h3⟩ := block_first hW hw hn
    simp only [Nat.mul_zero, Nat.zero_add] at h1 h2 h3
    exact ⟨j, h1, h2, h3⟩
  | succ n ih =>
    intro hn
    obtain ⟨j, h1, h2, h3⟩ := ih (by omega)
    obtain ⟨k, g1, g2, g3⟩ := block_first hW hw hn
    refine ⟨_, h1.append g1, ?_, ?_⟩
    · rw [loSt_succ, g2, h2]
      show min (rowSq w j) (rowSq w (2048 * (n + 1) + k)) = _
      split_ifs with h
      · exact min_eq_right h.le
      · exact min_eq_left (not_lt.1 h)
    · rw [argSt_succ, g2, g3, h2, h3]
      show Scalar.select (Ideal.cmp .olt (rowSq w (2048 * (n + 1) + k)) (rowSq w j)) _ _ = _
      unfold Ideal.cmp Scalar.select
      by_cases h : rowSq w (2048 * (n + 1) + k) < rowSq w j
      · simp [h]
      · simp [h]

/-- The running maximum after block `n` is at least every squared norm so far, and is one of them. -/
theorem hi_upto (hw : ∀ i, IsReal (w i)) : ∀ n < 4, IsReal (hiSt (F := Ideal) W n)
    ∧ ∀ i < 2048 * (n + 1), rowSq w i ≤ hiSt (F := Ideal) W n := by
  have block : ∀ n < 4, IsReal (k0_pay15 (F := Ideal) (W n))
      ∧ ∀ i < 2048, rowSq w (2048 * n + i) ≤ k0_pay15 (F := Ideal) (W n) := by
    intro n hn
    have hhi : k0_pay15 (F := Ideal) (W n) = Finset.univ.fold max ⊥
        (fun x : Fin 2048 × Fin 1 => ∑ l : Fin 256, W n (ix2 x.1 l) * W n (ix2 x.1 l)) := by
      have hbot : Ideal.ofBits .f32 0xFF800000#32 = ⊥ := by simp [Ideal.ofBits, Ideal.ieee]
      pointwise [k0_pay15, k0_pay13]
      rw [hbot]
    obtain ⟨m1, m3⟩ := fold_univ_pick (max : EReal → EReal → EReal) (fun a b => b ≤ a) le_refl
      (fun _ _ _ h h' => le_trans h' h) (fun a b => ⟨(max_choice a b), le_max_left a b, le_max_right a b⟩)
      ⊥ (fun x : Fin 2048 × Fin 1 => ∑ l : Fin 256, W n (ix2 x.1 l) * W n (ix2 x.1 l))
    rw [← hhi] at m1 m3
    have above : ∀ k : Fin 2048, ∑ l : Fin 256, W n (ix2 k l) * W n (ix2 k l) ≤ k0_pay15 (F := Ideal) (W n) :=
      fun k => m3 (k, 0)
    have real : ∀ k : Fin 2048, IsReal (∑ l : Fin 256, W n (ix2 k l) * W n (ix2 k l)) := fun k => by
      rw [block_sq hW hn]; exact rowSq_real hw _
    refine ⟨?_, fun i hi => ?_⟩
    · rcases m1 with h | ⟨k, h⟩
      · obtain ⟨r, hr⟩ := real ⟨0, by omega⟩
        have := above ⟨0, by omega⟩
        rw [h, hr] at this
        simp at this
      · rw [h]; exact real k.1
    · rw [← block_sq hW hn ⟨i, hi⟩]
      exact above ⟨i, hi⟩
  intro n
  induction n with
  | zero =>
    intro hn
    obtain ⟨h1, h2⟩ := block 0 hn
    simp only [Nat.mul_zero, Nat.zero_add] at h2
    exact ⟨h1, h2⟩
  | succ n ih =>
    intro hn
    obtain ⟨h1, h2⟩ := block (n + 1) hn
    obtain ⟨g1, g2⟩ := ih (by omega)
    have e : hiSt (F := Ideal) W (n + 1) = max (hiSt (F := Ideal) W n) (k0_pay15 (F := Ideal) (W (n + 1))) := rfl
    rw [e]
    refine ⟨?_, fun i hi => ?_⟩
    · rcases max_choice (hiSt (F := Ideal) W n) (k0_pay15 (F := Ideal) (W (n + 1))) with h | h
      · rw [h]; exact g1
      · rw [h]; exact h1
    · by_cases hlt : i < 2048 * (n + 1)
      · exact (g2 i hlt).trans (le_max_left _ _)
      · have := h2 (i - 2048 * (n + 1)) (by omega)
        rw [show 2048 * (n + 1) + (i - 2048 * (n + 1)) = i by omega] at this
        exact this.trans (le_max_right _ _)

/-- The index the kernel writes for a position whose squared norm is the real number `a`: the first row of least
    squared norm. (Where all distances are equal it writes 0, which is then that row.) -/
theorem index_first (hw : ∀ i, IsReal (w i)) (z : FVec Ideal S4x2x1024 .f32) (hz : ∀ y, IsReal (z y)) :
    ∃ j, FirstMin (rowSq w) 8192 j ∧ ∀ y, k0_pay7 (F := Ideal) z (loSt (F := Ideal) W 3) (hiSt (F := Ideal) W 3)
      (argSt (F := Ideal) W 3) y = BitVec.ofNat 32 j := by
  obtain ⟨j, h1, h2, h3⟩ := first_upto hW hw 3 (by decide)
  obtain ⟨g1, g2⟩ := hi_upto hW hw 3 (by decide)
  refine ⟨j, h1, fun y => ?_⟩
  rw [h2, h3]
  pointwise [k0_pay7]
  split_ifs with h
  · have e := (add_cancel (hz y) (rowSq_real hw j) g1).1 h
    rw [h1.eq_zero fun i hi => by rw [e]; exact g2 i hi]
  · rfl

end

end Cert.KernelIdeal.Hand

end
-- ==== Proof.Arrays.lean ====
module

public import proofs.«01_k».proof.Proof.Codes
public import Idealize.ShloMosaic.Lib.Pipeline.ValueKit

@[expose] public section

set_option maxRecDepth 16384

noncomputable section

/-!
  What the kernel's blocks hold of its two arguments, and what its three result arrays hold after the run.
-/

namespace Cert.KernelIdeal.Hand

open Idealize.ShloMosaic Idealize.ShloMosaic.TcCoe Idealize.SL.Sem
open Idealize.ShloMosaic.Pipeline (Dat)
open Cert.KernelIdeal Cert.KernelIdeal.Gen Cert.First Cert.Reals

variable (m : (ℓ : Loc nD τ sig) → Buf (Elt Ideal) ℓ) (c : Dev nD)

/-- Every window's block index at point `t`. -/
theorem idx : ∀ t : Fin cfg0.N, win0_0.index t = ![t.val, 0, 0] ∧ win0_1.index t = ![t.val, 0]
    ∧ win0_2.index t = ![t.val, 0, 0] ∧ win0_3.index t = ![0, 0, 0] ∧ win0_4.index t = ![0, 0] :=
  (by decide +kernel : ∀ t : Fin grid0.N, _)

/-- The first argument. -/
abbrev argZ : FVec Ideal S8x256x32x32 .f32 := m ((c : Thread nD τ).loc main_arg0)
/-- The code table. -/
abbrev argW : FVec Ideal S8192x256 .f32 := m ((c : Thread nD τ).loc main_arg1)

/-- The first argument at image `b`, channel `l` and position `p` of the 32 by 32 positions in row order. -/
def zAt (x : FVec Ideal S8x256x32x32 .f32) (b : Fin 8) (l : Fin 256) (p : Fin 1024) : EReal :=
  x (ix4 b l (⟨p.val / 32, by omega⟩ : Fin 32) (⟨p.val % 32, by omega⟩ : Fin 32))

/-- The first argument as the region reads it: the positions in one row. -/
theorem V_main_v0 : V m c main_v0 = shapeCast S8x256x1024 (argZ m c) shapeCasts_S8x256x32x32_S8x256x1024 := rfl

/-- Block `n` of the first argument holds images `2 n` and `2 n + 1`. -/
theorem zb_at (n : ℕ) (hn : n < 4) (a : Fin 2) (l : Fin 256) (p : Fin 1024) :
    (zb m c n : FVec Ideal S2x256x1024 .f32) (ix3 a l p) = zAt (argZ m c) ⟨2 * n + a.val, by omega⟩ l p := by
  have ht : (pt n).val = n := Nat.mod_eq_of_lt hn
  unfold zb zAt
  generalize pt n = t at ht
  subst ht
  show V m c main_v0 (((cfg0.win 0).blk t).view.emb (ix3 a l p)) = _
  rw [V_main_v0]
  pointwise
  blk_ext [idx t]

/-- Block `n` of the table holds its rows `2048 n` to `2048 n + 2047`. -/
theorem wb_blocked : Blocked (argW m c) (wb m c) := by
  intro n hn k l
  have ht : (pt n).val = n := Nat.mod_eq_of_lt hn
  unfold wb
  generalize pt n = t at ht
  subst ht
  blk_simp [iblk, V, idx t]
  blk_ext [V, idx t]

/-! ## The result arrays -/

/-- The first result as the region leaves it: at every entry the input moved to row 0's channel. -/
def moved (x : FVec Ideal S8x256x32x32 .f32) : FVec Ideal S8x256x1024 .f32 := fun i =>
  zAt x (i 0) (i 1) (i 2) + (zAt x ⟨0, by omega⟩ (i 1) ⟨0, by omega⟩ - zAt x (i 0) (i 1) (i 2))

/-- What the body stores in window 2, at coordinates. -/
theorem pay11_at (z z' : FVec Ideal S2x256x1024 .f32) (a : Fin 2) (l : Fin 256) (p : Fin 1024) :
    k0_pay11 (F := Ideal) z (k0_pay9 (F := Ideal) z') (ix3 a l p)
      = z (ix3 a l p) + (z' (ix3 (⟨0, by omega⟩ : Fin 2) l (⟨0, by omega⟩ : Fin 1024)) - z (ix3 a l p)) := by
  pointwise [k0_pay11, k0_pay10, k0_pay8, k0_pay9]

/-- Window 2's block at point `t`, at coordinates. -/
theorem out2_at (t : Fin cfg0.N) (ht : t.val < 4) (a : Fin 2) (l : Fin 256) (p : Fin 1024) :
    (out2 m c t : FVec Ideal S2x256x1024 .f32) (ix3 a l p)
      = moved (argZ m c) (ix3 (⟨2 * t.val + a.val, by omega⟩ : Fin 8) l p) := by
  unfold out2
  refine (pay11_at (zb m c t.val) (zb m c 0) a l p).trans ?_
  rw [zb_at m c t.val ht, zb_at m c 0 (by decide)]
  rfl

theorem final2 : (dats m 0 c).arrAt 2 (cfgs 0).N = moved (argZ m c) := by
  refine (dats m 0 c).arrAt_eq_of_covers 2 _ (by decide +kernel) fun t _ y => ?_
  have ht : t.val < 4 := lt_of_lt_of_eq t.isLt (show cfg0.N = 4 from N_0)
  blk_simp
  rw [after_2]
  refine Eq.trans ?_ ((out2_at m c t ht (y 0) (y 1) (y 2)).trans ?_)
  · exact congrArg (out2 m c t) (eq_ix3 y)
  · blk_ext [idx t]

theorem final3 : (dats m 0 c).arrAt 3 (cfgs 0).N = out3 m c := by
  refine (dats m 0 c).arrAt_eq_of_after_last 3 t0_3 (by decide +kernel) _ fun j => ?_
  blk_simp
  rw [after_3]

theorem final4 : (dats m 0 c).arrAt 4 (cfgs 0).N = out4 m c := by
  refine (dats m 0 c).arrAt_eq_of_after_last 4 t0_3 (by decide +kernel) _ fun j => ?_
  blk_simp
  rw [after_4]

/-! ## The results, after the lines that follow the region -/

theorem arr_inj : Function.Injective (Pipeline.arrRef (cfgs 0).spec) := by decide

theorem tail2 : Pipeline.afterTail₀ cfgs (dats m) 0 (V0 m) [hostOps1] c main_v2
    = shapeCast S8x256x32x32 (moved (argZ m c)) shapeCasts_S8x256x1024_S8x256x32x32 := by
  rw [← final2]
  exact congrArg (fun v : FVec Ideal S8x256x1024 .f32 => shapeCast S8x256x32x32 v shapeCasts_S8x256x1024_S8x256x32x32)
    (Pipeline.withArrays_arr (cfgs 0).spec arr_inj c (V0 m c) (fun w => (dats m 0 c).arrAt w (cfgs 0).N) 2)

theorem tail3 : Pipeline.afterTail₀ cfgs (dats m) 0 (V0 m) [hostOps1] c main_v3
    = shapeCast S8192 (out3 m c) shapeCasts_S4x2x1024_S8192 := by
  rw [← final3]
  exact congrArg (fun v : IVec S4x2x1024 32 => shapeCast S8192 v shapeCasts_S4x2x1024_S8192)
    (Pipeline.withArrays_arr (cfgs 0).spec arr_inj c (V0 m c) (fun w => (dats m 0 c).arrAt w (cfgs 0).N) 3)

theorem tail4 : Pipeline.afterTail₀ cfgs (dats m) 0 (V0 m) [hostOps1] c main_v4
    = shapeCast S_ (out4 m c) shapeCasts_S1x1_S_ := by
  rw [← final4]
  exact congrArg (fun v : FVec Ideal S1x1 .f32 => shapeCast S_ v shapeCasts_S1x1_S_)
    (Pipeline.withArrays_arr (cfgs 0).spec arr_inj c (V0 m c) (fun w => (dats m 0 c).arrAt w (cfgs 0).N) 4)

end Cert.KernelIdeal.Hand

end
-- ==== Proof.Values.lean ====
module

public import proofs.«01_k».proof.Proof.Arrays
public import Idealize.ShloMosaic.Lib.Claim

@[expose] public section

set_option maxRecDepth 16384

noncomputable section

/-!
  The kernel's three results after a run, as terms over its two arguments.
-/

namespace Cert.KernelIdeal.Hand

open Idealize.ShloMosaic Idealize.ShloMosaic.TcCoe Idealize.SL.Sem Idealize.ShloMosaic.Tactic
open Cert.KernelIdeal Cert.KernelIdeal.Gen

variable (m : (ℓ : Loc nD τ sig) → Buf (Elt Ideal) ℓ) (ρ : Dev nD → PrngReg)

/-- Every run ends with the region's three arrays in the results' shapes, the arguments as they began. -/
theorem values : θ_run defs (onTc (τ := τ) (main (F := Ideal))) ⟨m, fun _ => 0, ρ⟩ (fun r => ∀ c : Dev nD,
      (r.2.mem ((c.tc : Thread nD τ).loc main_v2) = shapeCast S8x256x32x32 (moved (argZ m c)) shapeCasts_S8x256x1024_S8x256x32x32
      ∧ r.2.mem ((c.tc : Thread nD τ).loc main_v3) = shapeCast S8192 (out3 m c) shapeCasts_S4x2x1024_S8192
      ∧ r.2.mem ((c.tc : Thread nD τ).loc main_v4) = shapeCast S_ (out4 m c) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h : θ_run defs (onTc (τ := τ) (main (F := Ideal))) ⟨m, fun _ => 0, ρ⟩ (fun r => ∀ c : Dev nD,
      r.2.mem ((c.tc : Thread nD τ).loc main_v2) = shapeCast S8x256x32x32 (moved (argZ m c)) shapeCasts_S8x256x1024_S8x256x32x32
      ∧ r.2.mem ((c.tc : Thread nD τ).loc main_v3) = shapeCast S8192 (out3 m c) shapeCasts_S4x2x1024_S8192
      ∧ r.2.mem ((c.tc : Thread nD τ).loc main_v4) = shapeCast S_ (out4 m c) shapeCasts_S1x1_S_) := by
    run_from run_main m ρ
    · exact tail2 m _
    · exact tail3 m _
    · exact tail4 m _
  exact (θ_run defs _ _).mono (fun _ h c => ⟨h.1 c, h.2.1 c⟩) (θ_run_and h (frame m ρ))

end Cert.KernelIdeal.Hand

end
-- ==== Proof.LossSum.lean ====
module

public import proofs.«01_k».proof.Proof.Arrays
public import Idealize.ShloMosaic.PureOps.Ideal.Laws
public import Idealize.ShloMosaic.Lib.Pointwise

@[expose] public section

set_option maxRecDepth 16384

noncomputable section

/-!
  The kernel's running sum: after the last point it is the sum, over every entry of the first argument, of the squared
  difference from row 0's channel.
-/

namespace Cert.KernelIdeal.Hand

open Idealize.ShloMosaic Idealize.ShloMosaic.TcCoe Idealize.ShloMosaic.Tactic
open Cert.KernelIdeal Cert.KernelIdeal.Gen

/-- A block's sum of squares. -/
theorem pay2_eq (v : FVec Ideal S2x256x1024 .f32) :
    k0_pay2 (F := Ideal) v = ∑ a : Fin 2, ∑ l : Fin 256, ∑ p : Fin 1024, v (ix3 a l p) * v (ix3 a l p) := by
  pointwise [k0_pay2]
  rw [Ideal.reduceAdd_total _ (fun b => by fin_cases b; rfl), sum_idx4, Fin.sum_univ_one]
  refine Finset.sum_congr rfl fun a _ => Finset.sum_congr rfl fun l _ => Finset.sum_congr rfl fun p _ => ?_
  pointwise

/-- A sum over `m * n` places is a sum over `m` rows of `n` places. -/
theorem sum_grid {M : Type} [AddCommMonoid M] (m n : ℕ) (f : Fin (m * n) → M) :
    ∑ p, f p = ∑ a : Fin m, ∑ b : Fin n, f (finProdFinEquiv (a, b)) := by
  rw [← finProdFinEquiv.sum_comp, Fintype.sum_prod_type]

variable (x : FVec Ideal S8x256x32x32 .f32)

/-- The squared difference from row 0's channel at one entry. -/
def gap (b : Fin 8) (l : Fin 256) (p : Fin 1024) : EReal :=
  (zAt x ⟨0, by omega⟩ l ⟨0, by omega⟩ - zAt x b l p) * (zAt x ⟨0, by omega⟩ l ⟨0, by omega⟩ - zAt x b l p)

variable (m : (ℓ : Loc nD τ sig) → Buf (Elt Ideal) ℓ) (c : Dev nD)

/-- The sum of squares the body takes at point `n`. -/
theorem block_sum (n : ℕ) (hn : n < 4) :
    k0_pay2 (F := Ideal) (k0_pay10 (F := Ideal) (zb m c n) (k0_pay9 (F := Ideal) (zb m c 0)))
      = ∑ a : Fin 2, ∑ l : Fin 256, ∑ p : Fin 1024, gap (argZ m c) ⟨2 * n + a.val, by omega⟩ l p := by
  rw [pay2_eq]
  refine Finset.sum_congr rfl fun a _ => Finset.sum_congr rfl fun l _ => Finset.sum_congr rfl fun p _ => ?_
  have h : k0_pay10 (F := Ideal) (zb m c n) (k0_pay9 (F := Ideal) (zb m c 0)) (ix3 a l p)
      = zAt (argZ m c) ⟨0, by omega⟩ l ⟨0, by omega⟩ - zAt (argZ m c) ⟨2 * n + a.val, by omega⟩ l p := by
    have h0 := zb_at m c 0 (by decide) ⟨0, by omega⟩ l ⟨0, by omega⟩
    have h1 := zb_at m c n hn a l p
    generalize (zb m c 0 : FVec Ideal S2x256x1024 .f32) = z0 at h0
    generalize (zb m c n : FVec Ideal S2x256x1024 .f32) = z at h1
    pointwise [k0_pay10, k0_pay8, k0_pay9]
    exact congrArg₂ (· - ·) h0 h1
  rw [h]
  rfl

/-- The running sum after the last point. -/
theorem acc_last : accSt (F := Ideal) (zb m c) 3 = ∑ b : Fin 8, ∑ l : Fin 256, ∑ p : Fin 1024, gap (argZ m c) b l p := by
  have next : ∀ (v : FVec Ideal S2x256x1024 .f32) (a : EReal), k0_pay3 (F := Ideal) v a = a + k0_pay2 (F := Ideal) v :=
    fun _ _ => rfl
  have first : accSt (F := Ideal) (zb m c) 0
      = k0_pay2 (F := Ideal) (k0_pay10 (F := Ideal) (zb m c 0) (k0_pay9 (F := Ideal) (zb m c 0))) := rfl
  rw [accSt_succ, accSt_succ, accSt_succ, next, next, next, first, block_sum m c 0 (by decide),
    block_sum m c (0 + 1) (by decide), block_sum m c (1 + 1) (by decide), block_sum m c (2 + 1) (by decide)]
  generalize gap (argZ m c) = g
  rw [Fin.sum_univ_eight]
  simp only [Fin.sum_univ_two, ← add_assoc]
  rfl

/-- The same sum over positions by row and column, channels innermost. -/
theorem gap_sum : ∑ b : Fin 8, ∑ l : Fin 256, ∑ p : Fin 1024, gap x b l p
    = ∑ b : Fin 8, ∑ p : Fin 32, ∑ q : Fin 32, ∑ l : Fin 256,
      (zAt x ⟨0, by omega⟩ l ⟨0, by omega⟩ - x (ix4 b l p q)) * (zAt x ⟨0, by omega⟩ l ⟨0, by omega⟩ - x (ix4 b l p q)) := by
  refine Finset.sum_congr rfl fun b _ => ?_
  rw [Finset.sum_comm, show ∑ p : Fin 1024, ∑ l : Fin 256, gap x b l p = _ from
    sum_grid 32 32 fun p : Fin 1024 => ∑ l : Fin 256, gap x b l p]
  refine Finset.sum_congr rfl fun p _ => Finset.sum_congr rfl fun q _ => Finset.sum_congr rfl fun l _ => ?_
  have h : zAt x b l (finProdFinEquiv (p, q) : Fin (32 * 32)) = x (ix4 b l p q) := by
    unfold zAt
    have hv : (finProdFinEquiv (p, q) : Fin (32 * 32)).val = q.val + 32 * p.val := rfl
    have e1 : (⟨(finProdFinEquiv (p, q) : Fin (32 * 32)).val / 32, by omega⟩ : Fin 32) = p := Fin.ext (by simp only [hv]; omega)
    have e2 : (⟨(finProdFinEquiv (p, q) : Fin (32 * 32)).val % 32, by omega⟩ : Fin 32) = q := Fin.ext (by simp only [hv]; omega)
    exact congrArg x (by rw [e1, e2])
  unfold gap
  rw [h]

end Cert.KernelIdeal.Hand

end
-- ==== Proof.RefRun.lean ====
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

/-!
  The reference's run: its three results as terms over the two arguments, step by step as the program computes them.
-/

namespace Cert.ReferenceIdeal.Hand

open Idealize.ShloMosaic Idealize.ShloMosaic.TcCoe Idealize.SL.Sem Idealize.ShloMosaic.Tactic
open Cert.ReferenceIdeal Cert.ReferenceIdeal.Gen

section Terms
variable {F : FTy → Type} [FloatOps F] (x : FVec F S8x256x32x32 .f32) (w : FVec F S8192x256 .f32)

/-- The first argument with its channels last. -/
def zp : FVec F S8x32x32x256 .f32 := transpose S8x32x32x256 [0, 2, 3, 1] x transposes_S8x256x32x32_S8x32x32x256_0_2_3_1

/-- Its rows: one vector of 256 channels per position. -/
def zf : FVec F S8192x256 .f32 := shapeCast S8192x256 (zp x) shapeCasts_S8x32x32x256_S8192x256

/-- The distances of all rows to all codes, the scalar sum of the matrix product taken off each. -/
def dist : FVec F S8192x8192 .f32 :=
  subf
    (addf
      (broadcastInDim S8192x8192 ![0, 1] bcast_S8192x1_S8192x8192_0_1
        (broadcastInDim S8192x1 ![0] bcast_S8192_S8192x1_0
          (Host.reduceAdd (mulf (zf x) (zf x)) (constant S_ .f32 0x00000000#32) reducesTo_S8192x256_S8192_d1 h_S_)))
      (broadcastInDim S8192x8192 ![0, 1] bcast_S1x8192_S8192x8192_0_1
        (broadcastInDim S1x8192 ![1] bcast_S8192_S1x8192_1
          (Host.reduceAdd (mulf w w) (constant S_ .f32 0x00000000#32) reducesTo_S8192x256_S8192_d1 h_S_))))
    (broadcastInDim S8192x8192 ![] bcast_S_S8192x8192
      (mulf (constant S_ .f32 0x40000000#32)
        (Host.reduceAdd
          (Host.dotGeneral dot_S8192x256_S256x8192_S8192x8192_1_0_0_1_n_n none (zf x)
            (transpose S256x8192 [1, 0] w transposes_S8192x256_S256x8192_1_0))
          (constant S_ .f32 0x00000000#32) reducesTo_S8192x8192_S_d0_1 h_S_)))

/-- The second result: each row's nearest code. -/
def codes : IVec S8192 32 := fun j =>
  (Host.argReduce reducer_argmin_f32_i32 (dist x w) (iotaInDim S8192x8192 32 1) (constant S_ .f32 0x7F800000#32)
    (constantI S_ 32 0#32) reducesTo_S8192x8192_S8192_d1 h_S_ j).2

/-- The rows the codes name, a negative code counted from the end. -/
def taken : FVec F S8x32x32x256 .f32 :=
  shapeCast S8x32x32x256
    (Host.gather gather_S8192x256_S8192x1_S8192x256_1_0_n_n_0_1_1256 (zf x)
      (broadcastInDim S8192x1 ![0] bcast_S8192_S8192x1_0
        (select (cmpi .slt (codes x w) (broadcastInDim S8192 ![] bcast_S_S8192 (constantI S_ 32 0#32)))
          (addi (codes x w) (broadcastInDim S8192 ![] bcast_S_S8192 (constantI S_ 32 8192#32))) (codes x w))))
    shapeCasts_S8192x256_S8x32x32x256

/-- The mean squared difference between the taken rows and the input. -/
def meanSq : FVec F S_ .f32 :=
  Host.divf
    (Host.reduceAdd (mulf (subf (taken x w) (zp x)) (subf (taken x w) (zp x))) (constant S_ .f32 0x00000000#32)
      reducesTo_S8x32x32x256_S_d0_1_2_3 h_S_)
    (constant S_ .f32 0x4A000000#32)

/-- The third result: the loss. -/
def loss : FVec F S_ .f32 := addf (meanSq x w) (mulf (meanSq x w) (constant S_ .f32 0x3E800000#32))

/-- The first result: the input moved to the taken rows. -/
def quantized : FVec F S8x256x32x32 .f32 :=
  transpose S8x256x32x32 [0, 3, 1, 2] (addf (zp x) (subf (taken x w) (zp x))) transposes_S8x32x32x256_S8x256x32x32_0_3_1_2

end Terms

variable {F : FTy → Type} [FloatOps F] (m : (ℓ : Loc nD τ sig) → Buf (Elt F) ℓ) (ρ : Dev nD → PrngReg)

set_option maxHeartbeats 3200000 in
/-- Every run ends with those three results, the arguments as they began and every counter at zero. -/
theorem run : θ_run defs (onTc (τ := τ) (main (F := F))) ⟨m, fun _ => 0, ρ⟩ (fun r => (∀ c : Dev nD,
      r.2.mem ((c : Thread nD τ).loc main_v38) = quantized (m ((c : Thread nD τ).loc main_arg0)) (m ((c : Thread nD τ).loc main_arg1))
      ∧ r.2.mem ((c : Thread nD τ).loc main_v17) = codes (m ((c : Thread nD τ).loc main_arg0)) (m ((c : Thread nD τ).loc main_arg1))
      ∧ r.2.mem ((c : Thread nD τ).loc main_v35) = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) := by
  hlo_run
  · intro c
    exact ⟨rfl, rfl, rfl, trivial, trivial⟩
  · exact sem_eq_zero_of_no_sems (by decide) _

/-- The arguments end as they began and every counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c => ⟨(h.1 c).2.2.2.1, (h.1 c).2.2.2.2⟩, h.2⟩) (run m ρ)

end Cert.ReferenceIdeal.Hand

end
-- ==== Proof.ArgMin.lean ====
module

public import proofs.«01_k».proof.Proof.First
public import proofs.«01_k».proof.ReferenceIdeal
public import proofs.«01_k».proof.On_where_row_zero_is_chosen
public import Idealize.ShloMosaic.PureOps.Ideal.Laws
public import Idealize.ShloMosaic.Lib.Pointwise

@[expose] public section

set_option maxRecDepth 16384

noncomputable section

/-!
  The arg-min of a StableHLO reduction over values and their places, read at the real numbers: the first place of the
  least value.
-/

namespace Cert.First

open Idealize.ShloMosaic

/-- The reference's arg-min step is the step of value and index. -/
theorem step_reference : Cert.ReferenceIdeal.reducer_argmin_f32_i32 (F := Ideal) = step := by
  funext p q
  obtain ⟨a, i⟩ := p
  obtain ⟨b, k⟩ := q
  have un : FloatOps.cmpf (F := Ideal) (φ := .f32) .une a a = 0#1 := by simp [Ideal.cmpf_def, Ideal.cmp]
  have lt : FloatOps.cmpf (F := Ideal) (φ := .f32) .olt a b = if a < b then 1#1 else 0#1 := by
    by_cases h : a < b <;> simp [Ideal.cmpf_def, Ideal.cmp, h]
  have eq : FloatOps.cmpf (F := Ideal) (φ := .f32) .oeq a b = if a = b then 1#1 else 0#1 := by
    by_cases h : a = b <;> simp [Ideal.cmpf_def, Ideal.cmp, h]
  have sl : IntOp.cmpi .slt i k = if i.toInt < k.toInt then 1#1 else 0#1 := by
    by_cases h : i.toInt < k.toInt
    · rw [if_pos h, IntOp.cmpi, BitVec.slt_iff_toInt_lt.2 h]; rfl
    · rw [if_neg h, IntOp.cmpi, Bool.eq_false_iff.2 fun e => h (BitVec.slt_iff_toInt_lt.1 e)]; rfl
  unfold Cert.ReferenceIdeal.reducer_argmin_f32_i32 step
  dsimp only
  rw [un, lt, eq, sl]
  by_cases h1 : a < b
  · rw [if_pos h1, if_pos h1, if_neg h1.ne]
    split_ifs <;> rfl
  · by_cases h2 : a = b
    · subst h2
      by_cases h3 : i.toInt < k.toInt
      · simp only [if_neg h1, if_pos h3, if_true]; rfl
      · simp only [if_neg h1, if_neg h3, if_true]; rfl
    · simp only [if_neg h1, if_neg h2]
      split_ifs <;> rfl

/-- The predicate's arg-min step has the same text. -/
theorem step_predicate : Cert.On_where_row_zero_is_chosen.reducer_argmin_f32_i32 (F := Ideal) = step := step_reference

/-- A place counted from the end where it is negative: a small natural number is not. -/
theorem wrap_small {j : ℕ} (hj : j < 2 ^ 31) (a b : BitVec 32) :
    Scalar.select (IntOp.cmpi .slt (BitVec.ofNat 32 j) 0#32) a b = b := by
  have h : ¬ (BitVec.ofNat 32 j).slt 0#32 = true := fun e => by
    have := BitVec.slt_iff_toInt_lt.1 e
    rw [toInt_small hj, show (0#32 : BitVec 32).toInt = 0 by decide] at this
    omega
  rw [IntOp.cmpi, Bool.eq_false_iff.2 h]
  rfl

/-- An arg-min whose fiber holds the values `b 0`, …, `b (N - 1)`, each with its place, leaves the first least place. -/
theorem argReduce_first {s t u : Shape} {axes : List (Fin s.rank)}
    (f : Ideal .f32 × BitVec 32 → Ideal .f32 × BitVec 32 → Ideal .f32 × BitVec 32) (hstep : f = step) (x : FVec Ideal s .f32) (y : IVec s 32)
    (ix : FVec Ideal u .f32) (iy : IVec u 32) (h : s.ReducesTo axes t) (hu : 0 < u.numel) (j : t.Idx) {N : ℕ}
    (hN : 0 < N) (hN' : N ≤ 2 ^ 31) (b : ℕ → EReal) (hb : ∀ i < N, b i < ⊤) (hx : ix (Shape.Idx.first hu) = ⊤)
    (hy : iy (Shape.Idx.first hu) = 0#32)
    (hf : ∀ i, h.drop i = j → ∃ n < N, x i = b n ∧ y i = BitVec.ofNat 32 n)
    (hg : ∀ n < N, ∃ i, h.drop i = j ∧ x i = b n ∧ y i = BitVec.ofNat 32 n) :
    ∃ n, FirstMin b N n ∧ Host.argReduce f x y ix iy h hu j = (b n, BitVec.ofNat 32 n) := by
  subst hstep
  rw [Ideal.argReduce_eq_reduce2, Host.reduce2_eq_foldl_fiber, hx, hy]
  obtain ⟨n, h1, h2⟩ := foldl_step hN hN' b hb (Host.argReduceFiber x y h j) (fun p => by
    unfold Host.argReduceFiber
    rw [List.mem_map]
    constructor
    · rintro ⟨k, hk, rfl⟩
      obtain ⟨n, hn, e1, e2⟩ := hf _ (of_decide_eq_true (List.mem_filter.1 hk).2)
      exact ⟨n, hn, by rw [e1, e2]⟩
    · rintro ⟨n, hn, rfl⟩
      obtain ⟨i, hi, e1, e2⟩ := hg n hn
      refine ⟨s.rowMajor i, List.mem_filter.2 ⟨List.mem_finRange _, decide_eq_true ?_⟩, ?_⟩
      · rw [Equiv.symm_apply_apply]; exact hi
      · rw [Equiv.symm_apply_apply, e1, e2])
  exact ⟨n, h1, h2⟩

end Cert.First

end
-- ==== Proof.RefValue.lean ====
module

public import proofs.«01_k».proof.Proof.RefRun
public import proofs.«01_k».proof.Proof.Codes
public import proofs.«01_k».proof.Proof.ArgMin
public import Idealize.ShloMosaic.Lib.Pointwise
public import Idealize.ShloMosaic.Lib.Routing.Ops

@[expose] public section

set_option maxRecDepth 16384

noncomputable section

/-!
  The reference's results at the real numbers: the first code of least squared norm for every row, and the row of that
  number taken everywhere.
-/

namespace Cert.ReferenceIdeal.Hand

open Idealize.ShloMosaic Idealize.ShloMosaic.Tactic
open Cert.ReferenceIdeal Cert.ReferenceIdeal.Gen Cert.First Cert.Reals
open Cert.KernelIdeal.Hand (rowSq rowSq_real)

variable (x : FVec Ideal S8x256x32x32 .f32) (w : FVec Ideal S8192x256 .f32)

/-- Row `i` of the first argument's positions, at channel `l`. -/
def row (i : Fin 8192) (l : Fin 256) : EReal :=
  x (ix4 (⟨i.val / 1024, by omega⟩ : Fin 8) l (⟨i.val / 32 % 32, by omega⟩ : Fin 32) (⟨i.val % 32, by omega⟩ : Fin 32))

/-- The reference's rows at coordinates. -/
theorem zf_at (i : Fin 8192) (l : Fin 256) : zf x (ix2 i l) = row x i l := by
  unfold row
  pointwise [zf, zp]

theorem two_real : IsReal (Ideal.ofBits .f32 0x40000000#32) :=
  ⟨8388608 * (2 ^ 22)⁻¹, by simp [Ideal.ofBits, Ideal.ieee]⟩

/-- A row of distances is the codes' squared norms moved by one real number. -/
theorem dist_at (hx : ∀ i, IsReal (x i)) (hw : ∀ i, IsReal (w i)) (r : Fin 8192) :
    ∃ a s, IsReal a ∧ IsReal s ∧ ∀ i : Fin 8192, dist x w (ix2 r i) = a + rowSq w i.val - s := by
  have hz : ∀ i, IsReal (zf x i) := fun i => by rw [eq_ix2 i]; exact (zf_at x (i 0) (i 1)).symm ▸ hx _
  unfold dist
  generalize zf x = z at hz
  pointwise
  refine ⟨_, _, IsReal.sum Finset.univ fun l => (hz (ix2 r l)).mul (hz (ix2 r l)), two_real.mul (IsReal.sum Finset.univ fun i => IsReal.sum Finset.univ fun k =>
    IsReal.sum Finset.univ fun l => (hz (ix2 i l)).mul (hw (ix2 k l))), fun i => ?_⟩
  unfold rowSq
  simp only [Nat.mod_eq_of_lt i.isLt]

/-- The arg-min along the rows of an array that holds, along row `r`, the numbers `b 0`, `b 1`, …. -/
theorem argmin_row (d : FVec Ideal S8192x8192 .f32) (r : Fin 8192) (b : ℕ → EReal) (hb : ∀ i, b i < ⊤)
    (hd : ∀ i : Fin 8192, d (ix2 r i) = b i.val) :
    ∃ n, FirstMin b 8192 n ∧ Host.argReduce reducer_argmin_f32_i32 d (iotaInDim S8192x8192 32 1)
      (constant S_ .f32 0x7F800000#32) (constantI S_ 32 0#32) reducesTo_S8192x8192_S8192_d1 h_S_ (ix1 r)
        = (b n, BitVec.ofNat 32 n) := by
  have hi : ∀ i : Fin 8192, iotaInDim S8192x8192 32 1 (ix2 r i) = BitVec.ofNat 32 i.val := fun i => by pointwise
  generalize iotaInDim S8192x8192 32 1 = y at hi
  refine argReduce_first _ step_reference d y _ _ _ _ (ix1 r) (by omega) (by omega) b (fun i _ => hb i)
      (by simp [constant, Ideal.ofBits, Ideal.ieee]) (by pointwise) (fun i h => ?_) fun n hn => ⟨ix2 r ⟨n, hn⟩, ?_, hd ⟨n, hn⟩, hi ⟨n, hn⟩⟩
  · obtain ⟨k, rfl⟩ := (Shape.ReducesTo.fiber_r2_a1 _ _ _).1 h
    exact ⟨k.val, k.isLt, hd k, hi k⟩
  · exact (Shape.ReducesTo.fiber_r2_a1 _ _ _).2 ⟨⟨n, hn⟩, rfl⟩

/-- The codes are the places an arg-min of the distances names. -/
theorem codes_def : codes x w = fun j =>
    (Host.argReduce reducer_argmin_f32_i32 (dist x w) (iotaInDim S8192x8192 32 1) (constant S_ .f32 0x7F800000#32)
      (constantI S_ 32 0#32) reducesTo_S8192x8192_S8192_d1 h_S_ j).2 := rfl

/-- The reference's code at row `r`. -/
theorem code_at (hx : ∀ i, IsReal (x i)) (hw : ∀ i, IsReal (w i)) (r : Fin 8192) :
    ∃ j, FirstMin (rowSq w) 8192 j ∧ codes x w (ix1 r) = BitVec.ofNat 32 j := by
  obtain ⟨a, s, ha, hs, hd⟩ := dist_at x w hx hw r
  obtain ⟨n, h1, h2⟩ := argmin_row (dist x w) r (fun i => a + rowSq w i - s)
    (fun i => ((ha.add (rowSq_real hw i)).sub hs).lt_top) hd
  exact ⟨n, h1.map fun i _ k _ => (shift_lt ha hs (rowSq_real hw i) (rowSq_real hw k)).symm,
    (congrFun (codes_def x w) (ix1 r)).trans (congrArg Prod.snd h2)⟩

/-- The reference's codes are one number everywhere: the first row of least squared norm. -/
theorem codes_first (hx : ∀ i, IsReal (x i)) (hw : ∀ i, IsReal (w i)) :
    ∃ j, FirstMin (rowSq w) 8192 j ∧ ∀ r, codes x w r = BitVec.ofNat 32 j := by
  obtain ⟨j, hj, -⟩ := code_at x w hx hw ⟨0, by omega⟩
  refine ⟨j, hj, fun r => ?_⟩
  obtain ⟨k, hk, e⟩ := code_at x w hx hw (r 0)
  rw [hk.unique hj] at e
  rw [eq_ix1 r]
  exact e

end Cert.ReferenceIdeal.Hand

end
-- ==== Proof.RefRows.lean ====
module

public import proofs.«01_k».proof.Proof.RefValue

@[expose] public section

set_option maxRecDepth 16384

noncomputable section

/-!
  The reference's first and third result where all its codes are one number `j`: both are made of row `j`.
-/

namespace Cert.ReferenceIdeal.Hand

open Idealize.ShloMosaic Idealize.ShloMosaic.Tactic
open Cert.ReferenceIdeal Cert.ReferenceIdeal.Gen Cert.First Cert.Reals

variable (x : FVec Ideal S8x256x32x32 .f32) (w : FVec Ideal S8192x256 .f32)

/-- Where all codes are `j`, the rows taken are row `j` everywhere. -/
theorem taken_at {j : ℕ} (hj : j < 8192) (hc : ∀ r, codes x w r = BitVec.ofNat 32 j) (b : Fin 8) (p q : Fin 32) (l : Fin 256) :
    taken x w (ix4 b p q l) = row x ⟨j, hj⟩ l := by
  unfold taken
  generalize codes x w = v at hc
  pointwise
  refine (Routing.gather_row _ rfl rfl rfl rfl rfl (zf x) _ _ l ⟨j, hj⟩ ?_ (by omega)).trans (zf_at x _ _)
  pointwise
  simp only [hc]
  exact wrap_small (by omega) _ _

/-- The reference's first result, at coordinates. -/
theorem quantized_at {j : ℕ} (hj : j < 8192) (hx : ∀ i, IsReal (x i)) (hc : ∀ r, codes x w r = BitVec.ofNat 32 j)
    (b : Fin 8) (l : Fin 256) (p q : Fin 32) : quantized x w (ix4 b l p q) = row x ⟨j, hj⟩ l := by
  have ht := taken_at x w hj hc
  unfold quantized
  generalize taken x w = t at ht
  pointwise [zp]
  rw [ht]
  exact add_sub_self (hx _) (hx _)

/-- The sum of the squared differences of every position's channels from the vector `v`. -/
def spread (v : Fin 256 → EReal) : EReal :=
  ∑ b : Fin 8, ∑ p : Fin 32, ∑ q : Fin 32, ∑ l : Fin 256, (v l - x (ix4 b l p q)) * (v l - x (ix4 b l p q))

/-- The reference's mean is that sum from row `j`, over the number of entries. -/
theorem meanSq_eq {j : ℕ} (hj : j < 8192) (hc : ∀ r, codes x w r = BitVec.ofNat 32 j) (e : S_.Idx) :
    meanSq x w e = Ideal.div (spread x (row x ⟨j, hj⟩)) (Ideal.ofBits .f32 0x4A000000#32) := by
  have ht := taken_at x w hj hc
  unfold meanSq
  generalize taken x w = t at ht
  pointwise
  refine congrArg (Ideal.div · _) ?_
  rw [Ideal.hostReduceAdd_total _ (fun b => absurd b.isLt (Nat.not_lt_zero _)), zero_add, sum_idx4]
  unfold spread
  have hz : ∀ b p q l, zp x (ix4 b p q l) = x (ix4 b l p q) := fun b p q l => by pointwise [zp]
  simp only [mulf_apply, subf_apply, ht, hz]
  rfl

/-- The reference's third result. -/
theorem loss_eq {j : ℕ} (hj : j < 8192) (hc : ∀ r, codes x w r = BitVec.ofNat 32 j) (e : S_.Idx) :
    loss x w e = Ideal.div (spread x (row x ⟨j, hj⟩)) (Ideal.ofBits .f32 0x4A000000#32)
      + Ideal.div (spread x (row x ⟨j, hj⟩)) (Ideal.ofBits .f32 0x4A000000#32) * Ideal.ofBits .f32 0x3E800000#32 := by
  have hm := meanSq_eq x w hj hc
  unfold loss
  generalize meanSq x w = t at hm
  pointwise
  rw [hm]

end Cert.ReferenceIdeal.Hand

end
-- ==== Proof.Conditions.lean ====
module

public import proofs.«01_k».proof.Proof.RefValue
public import proofs.«01_k».proof.Pre_finite
public import Idealize.ShloMosaic.Lib.ReduceAll
public import Idealize.ShloMosaic.Lib.Affine

@[expose] public section

set_option maxRecDepth 16384

noncomputable section

/-!
  What the two predicates of the claim say: the precondition, that every entry of both arguments is a real number; the
  mask, where the row the arg-min chooses has row 0's channels.
-/

namespace Cert.Pre_finite

open Idealize.ShloMosaic Idealize.ShloMosaic.Tactic Cert.Reals

/-- An entry that the test against infinity lets through is a real number. -/
theorem real_of_test {v : EReal} (h : FloatOps.cmpf (F := Ideal) (φ := .f32) .olt (FloatOps.absf (F := Ideal) (φ := .f32) v)
    (Ideal.ofBits .f32 0x7F800000#32) = 1#1) : IsReal v := by
  have ht : Ideal.ofBits .f32 0x7F800000#32 = ⊤ := by simp [Ideal.ofBits, Ideal.ieee]
  rw [ht, Ideal.cmpf_def] at h
  refine IsReal.of_abs ?_
  by_contra hn
  have h' : BitVec.ofBool (decide (max v (-v) < ⊤)) = 1#1 := h
  rw [decide_eq_false hn] at h'
  exact absurd h' (by decide)

/-- Under the precondition every entry of both arguments is a real number. -/
theorem reals [Facts] (x : FVec Ideal S8x256x32x32 .f32) (w : FVec Ideal S8192x256 .f32) (e : S_.Idx)
    (h : fn (F := Ideal) x w e = 1#1) : (∀ i, IsReal (x i)) ∧ ∀ i, IsReal (w i) := by
  dsimp only [fn] at h
  rw [andi_apply] at h
  obtain ⟨h1, h2⟩ := IntOp.andi_eq_one.1 h
  refine ⟨fun i => ?_, fun i => ?_⟩
  · exact real_of_test (Host.reduce_andi_all _ _ _ _ e h1 i)
  · exact real_of_test (Host.reduce_andi_all _ _ _ _ e h2 i)

end Cert.Pre_finite

namespace Cert.On_where_row_zero_is_chosen

open Idealize.ShloMosaic Idealize.ShloMosaic.Tactic Cert.First Cert.Reals
open Cert.KernelIdeal.Hand (rowSq rowSq_real)
open Cert.ReferenceIdeal.Hand (row)

variable [Facts]
open Facts

/-- The arg-min of a vector that holds the numbers `b 0`, `b 1`, …: the first place of the least. -/
theorem argmin_at (d : FVec Ideal S8192 .f32) (b : ℕ → EReal) (hb : ∀ i, b i < ⊤) (hd : ∀ i : Fin 8192, d (ix1 i) = b i.val)
    (e : S_.Idx) : ∃ n, FirstMin b 8192 n ∧ fn_argmin (F := Ideal) d e = BitVec.ofNat 32 n := by
  have hi : ∀ i : Fin 8192, iotaInDim S8192 32 0 (ix1 i) = BitVec.ofNat 32 i.val := fun i => by pointwise
  have hf : fn_argmin (F := Ideal) d = fun j => (Host.argReduce reducer_argmin_f32_i32 d (iotaInDim S8192 32 0)
    (constant S_ .f32 0x7F800000#32) (constantI S_ 32 0#32) reducesTo_S8192_S_d0 h_S_ j).2 := rfl
  obtain ⟨n, h1, h2⟩ := argReduce_first _ step_predicate d (iotaInDim S8192 32 0) (constant S_ .f32 0x7F800000#32)
    (constantI S_ 32 0#32) reducesTo_S8192_S_d0 h_S_ e (N := 8192) (by omega) (by omega) b (fun i _ => hb i)
    (by simp [constant, Ideal.ofBits, Ideal.ieee]) (by pointwise)
    (fun i h => by
      obtain ⟨k, rfl⟩ := (Shape.ReducesTo.fiber_r1_a0 _ _ _).1 h
      exact ⟨k.val, k.isLt, hd k, hi k⟩)
    (fun n hn => ⟨ix1 ⟨n, hn⟩, (Shape.ReducesTo.fiber_r1_a0 _ _ _).2 ⟨⟨n, hn⟩, rfl⟩, hd ⟨n, hn⟩, hi ⟨n, hn⟩⟩)
  exact ⟨n, h1, (congrFun hf e).trans (congrArg Prod.snd h2)⟩

variable (x : FVec Ideal S8x256x32x32 .f32) (w : FVec Ideal S8192x256 .f32)

/-- The squared norms of the table's rows. -/
def norms : FVec Ideal S8192 .f32 :=
  Host.reduceAdd (mulf w w) (constant S_ .f32 0x00000000#32) reducesTo_S8192x256_S8192_d1 h_S_

/-- The first argument's rows. -/
def rows : FVec Ideal S8192x256 .f32 :=
  shapeCast S8192x256 (transpose S8x32x32x256 [0, 2, 3, 1] x transposes_S8x256x32x32_S8x32x32x256_0_2_3_1)
    shapeCasts_S8x32x32x256_S8192x256

/-- The row numbered `a`, counted from the end where `a` is negative. -/
def rowOf (a : IVec S_ 32) : FVec Ideal S1x256 .f32 :=
  Host.dynamicSlice S1x256 (rows x)
    (fun k => ((![select (cmpi .slt a (constantI S_ 32 0#32)) (addi a (constantI S_ 32 8192#32)) a,
      select (cmpi .slt (constantI S_ 32 0#32) (constantI S_ 32 0#32)) (addi (constantI S_ 32 0#32) (constantI S_ 32 256#32))
        (constantI S_ 32 0#32)] : Fin 2 → IVec S_ 32) k (Shape.Idx.first h_S_)).toInt) sliceFits_S8192x256_S1x256

/-- Where that row has row 0's channels. -/
def same (a : IVec S_ 32) : IVec S256 1 :=
  cmpf .oeq (shapeCast S256 (rowOf x a) shapeCasts_S1x256_S256)
    (shapeCast S256 (extractStridedSlice S1x256 ![0, 0] (rows x) slices_S8192x256_S1x256_0_0) shapeCasts_S1x256_S256)

/-- The number the arg-min of the squared norms leaves. -/
theorem chosen {j : ℕ} (hj : FirstMin (rowSq w) 8192 j) (hw : ∀ i, IsReal (w i)) (e : S_.Idx) :
    fn_argmin (F := Ideal) (norms w) e = BitVec.ofNat 32 j := by
  have hd : ∀ i : Fin 8192, norms w (ix1 i) = rowSq w i.val := fun i => by
    unfold rowSq
    pointwise [norms]
    simp only [Nat.mod_eq_of_lt i.isLt]
  obtain ⟨n, h1, h2⟩ := argmin_at (norms w) (rowSq w) (fun i => (rowSq_real hw i).lt_top) hd e
  rw [h2, h1.unique hj]

/-- The mask is made of that comparison. -/
theorem fn_eq : fn (F := Ideal) x w = fn_part1 (F := Ideal) (same x (fn_argmin (F := Ideal) (norms w))) := rfl

/-- The rows at coordinates. -/
theorem rows_at (i : Fin 8192) (l : Fin 256) : rows x (ix2 i l) = row x i l := by
  unfold row
  pointwise [rows]

/-- The row of a small number. -/
theorem rowOf_at {j : ℕ} (hj : j < 8192) (a : IVec S_ 32) (ha : ∀ e, a e = BitVec.ofNat 32 j) (l : Fin 256) :
    rowOf x a (ix2 (⟨0, by omega⟩ : Fin 1) l) = row x ⟨j, hj⟩ l := by
  rw [← rows_at]
  unfold rowOf
  rw [Host.dynamicSlice_apply]
  refine congrArg (rows x) ?_
  have h0 := Host.clampedStart_of_le sliceFits_S8192x256_S1x256.1
    (fun k => ((![select (cmpi .slt a (constantI S_ 32 0#32)) (addi a (constantI S_ 32 8192#32)) a,
      select (cmpi .slt (constantI S_ 32 0#32) (constantI S_ 32 0#32)) (addi (constantI S_ 32 0#32) (constantI S_ 32 256#32))
        (constantI S_ 32 0#32)] : Fin 2 → IVec S_ 32) k (Shape.Idx.first h_S_)).toInt) 0 j (by
      show (Scalar.select (IntOp.cmpi .slt (a (Shape.Idx.first h_S_)) 0#32) (IntOp.addi (a (Shape.Idx.first h_S_)) 8192#32)
        (a (Shape.Idx.first h_S_))).toInt = j
      rw [ha, wrap_small (by omega), toInt_small (by omega)]) (by show j + 1 ≤ 8192; omega)
  have h1 := Host.clampedStart_of_le sliceFits_S8192x256_S1x256.1
    (fun k => ((![select (cmpi .slt a (constantI S_ 32 0#32)) (addi a (constantI S_ 32 8192#32)) a,
      select (cmpi .slt (constantI S_ 32 0#32) (constantI S_ 32 0#32)) (addi (constantI S_ 32 0#32) (constantI S_ 32 256#32))
        (constantI S_ 32 0#32)] : Fin 2 → IVec S_ 32) k (Shape.Idx.first h_S_)).toInt) 1 0 (by
      show (Scalar.select (IntOp.cmpi .slt 0#32 0#32) (IntOp.addi 0#32 256#32) 0#32).toInt = ((0 : ℕ) : ℤ)
      decide) (by show 0 + 256 ≤ 256; omega)
  rw [Shape.Idx.norm2]
  refine congrArg₂ ix2 (Fin.ext ?_) (Fin.ext ?_)
  · exact congrArg (· + 0) h0
  · exact (congrArg (· + l.val) h1).trans (Nat.zero_add _)

/-- The comparison says that row `j` and row 0 agree at the channel. -/
theorem same_at {j : ℕ} (hj : j < 8192) (a : IVec S_ 32) (ha : ∀ e, a e = BitVec.ofNat 32 j) (l : Fin 256)
    (h : same x a (ix1 l) = 1#1) : row x ⟨j, hj⟩ l = row x ⟨0, by omega⟩ l := by
  have h1 := rowOf_at x hj a ha l
  have h2 := rows_at x ⟨0, by omega⟩ l
  unfold same at h
  generalize rowOf x a = v at h h1
  generalize rows x = r at h h2
  pointwise at h
  have e : v (ix2 (⟨0, by omega⟩ : Fin 1) l) = r (ix2 (⟨0, by omega⟩ : Fin 8192) l) := by
    by_contra hn
    exact absurd ((congrArg BitVec.ofBool (decide_eq_false hn)).symm.trans h) (by decide)
  exact h1.symm.trans (e.trans h2)

/-- The first mask at coordinates: the chosen row `j` has row 0's value at the entry's channel. -/
theorem mask_first {j : ℕ} (hj : FirstMin (rowSq w) 8192 j) (hw : ∀ i, IsReal (w i)) (b : Fin 8) (l : Fin 256) (p q : Fin 32)
    (h : (fn (F := Ideal) x w).1 (ix4 b l p q) = 1#1) : row x ⟨j, hj.1⟩ l = row x ⟨0, by omega⟩ l := by
  have ha := chosen w hj hw
  rw [fn_eq] at h
  generalize fn_argmin (F := Ideal) (norms w) = a at h ha
  refine same_at x hj.1 a ha l ?_
  generalize same x a = v at h
  dsimp only [fn_part1] at h
  pointwise at h
  exact h

/-- The third mask: the chosen row `j` is row 0. -/
theorem mask_third {j : ℕ} (hj : FirstMin (rowSq w) 8192 j) (hw : ∀ i, IsReal (w i)) (e : S_.Idx)
    (h : (fn (F := Ideal) x w).2.2 e = 1#1) (l : Fin 256) : row x ⟨j, hj.1⟩ l = row x ⟨0, by omega⟩ l := by
  have ha := chosen w hj hw
  rw [fn_eq] at h
  generalize fn_argmin (F := Ideal) (norms w) = a at h ha
  refine same_at x hj.1 a ha l ?_
  generalize same x a = v at h
  dsimp only [fn_part1] at h
  exact Host.reduce_andi_all _ _ _ _ e h (ix1 l)

end Cert.On_where_row_zero_is_chosen

end
-- ==== Proof.Equation.lean ====
module

public import proofs.«01_k».proof.Proof.Values
public import proofs.«01_k».proof.Proof.LossSum
public import proofs.«01_k».proof.Proof.RefRows
public import proofs.«01_k».proof.Proof.Conditions

@[expose] public section

set_option maxRecDepth 16384

noncomputable section

/-!
  The two programs' results side by side, for arguments whose entries are real numbers.
-/

namespace Cert.Equation

open Idealize.ShloMosaic Idealize.ShloMosaic.TcCoe Idealize.SL.Sem Idealize.ShloMosaic.Tactic
open Cert.KernelIdeal Cert.KernelIdeal.Gen Cert.KernelIdeal.Hand Cert.First Cert.Reals
open Cert.ReferenceIdeal.Hand (row codes quantized loss spread codes_first quantized_at loss_eq)

variable (m : (ℓ : Loc nD τ sig) → Buf (Elt Ideal) ℓ) (c : Dev nD)

/-- Row 0's channel, as the kernel and as the reference address it. -/
theorem row_zero (x : FVec Ideal S8x256x32x32 .f32) (l : Fin 256) :
    zAt x ⟨0, by omega⟩ l ⟨0, by omega⟩ = row x ⟨0, by omega⟩ l := rfl

/-- The squared norms of the positions are real numbers. -/
theorem norms_real (hx : ∀ i, IsReal (argZ m c i)) (y : S4x2x1024.Idx) : IsReal (norms (F := Ideal) (zb m c) y) := by
  have hn : (y 0).val < 4 := (y 0).isLt
  have hz : ∀ i, IsReal ((zb m c (y 0).val : FVec Ideal S2x256x1024 .f32) i) := fun i => by
    rw [eq_ix3 i]
    exact (zb_at m c (y 0).val hn (i 0) (i 1) (i 2)).symm ▸ hx _
  unfold norms
  generalize (zb m c (y 0).val : FVec Ideal S2x256x1024 .f32) = z at hz
  pointwise [k0_pay12, k0_pay8]
  exact IsReal.sum Finset.univ fun l => (hz _).mul (hz _)

/-- The kernel's second result is one number everywhere: the first row of least squared norm. -/
theorem kernel_codes (hx : ∀ i, IsReal (argZ m c i)) (hw : ∀ i, IsReal (argW m c i)) :
    ∃ j, FirstMin (rowSq (argW m c)) 8192 j
      ∧ ∀ r, shapeCast S8192 (out3 m c) shapeCasts_S4x2x1024_S8192 r = BitVec.ofNat 32 j := by
  obtain ⟨j, h1, h2⟩ := index_first (wb_blocked m c) hw (norms (zb m c)) (norms_real m c hx)
  refine ⟨j, h1, fun r => ?_⟩
  have h3 : ∀ y, (out3 m c : IVec S4x2x1024 32) y = BitVec.ofNat 32 j := h2
  generalize (out3 m c : IVec S4x2x1024 32) = v at h3
  exact h3 _

/-- The second results are the same. -/
theorem second (hx : ∀ i, IsReal (argZ m c i)) (hw : ∀ i, IsReal (argW m c i)) :
    shapeCast S8192 (out3 m c) shapeCasts_S4x2x1024_S8192 = codes (argZ m c) (argW m c) := by
  obtain ⟨j, h1, h2⟩ := kernel_codes m c hx hw
  obtain ⟨k, g1, g2⟩ := codes_first (argZ m c) (argW m c) hx hw
  funext r
  rw [h2, g2, h1.unique g1]

/-- The kernel's first result: row 0's channel at every entry. -/
theorem kernel_first (hx : ∀ i, IsReal (argZ m c i)) (b : Fin 8) (l : Fin 256) (p q : Fin 32) :
    shapeCast S8x256x32x32 (moved (argZ m c)) shapeCasts_S8x256x1024_S8x256x32x32 (ix4 b l p q)
      = row (argZ m c) ⟨0, by omega⟩ l := by
  rw [← row_zero]
  have h : ∀ i, moved (argZ m c) i = zAt (argZ m c) ⟨0, by omega⟩ (i 1) ⟨0, by omega⟩ :=
    fun i => add_sub_self (hx _) (hx _)
  generalize moved (argZ m c) = v at h
  pointwise
  exact h _

/-- The first results are the same at every entry whose channel the chosen row shares with row 0. -/
theorem first [Cert.On_where_row_zero_is_chosen.Facts] (hx : ∀ i, IsReal (argZ m c i)) (hw : ∀ i, IsReal (argW m c i))
    (i : S8x256x32x32.Idx) (hi : (Cert.On_where_row_zero_is_chosen.fn (F := Ideal) (argZ m c) (argW m c)).1 i = 1#1) :
    shapeCast S8x256x32x32 (moved (argZ m c)) shapeCasts_S8x256x1024_S8x256x32x32 i = quantized (argZ m c) (argW m c) i := by
  obtain ⟨j, h1, h2⟩ := codes_first (argZ m c) (argW m c) hx hw
  obtain ⟨b, l, p, q, rfl⟩ : ∃ (b : Fin 8) (l : Fin 256) (p q : Fin 32), i = ix4 b l p q := ⟨_, _, _, _, eq_ix4 i⟩
  rw [kernel_first m c hx b l p q, quantized_at (argZ m c) (argW m c) h1.1 hx h2 b l p q]
  exact (Cert.On_where_row_zero_is_chosen.mask_first (argZ m c) (argW m c) h1 hw b l p q hi).symm

/-- The kernel's third result. -/
theorem kernel_third (e : S_.Idx) : shapeCast S_ (out4 m c) shapeCasts_S1x1_S_ e
    = Ideal.div (spread (argZ m c) (row (argZ m c) ⟨0, by omega⟩)) (Ideal.ofBits .f32 0x4A000000#32)
      + Ideal.div (spread (argZ m c) (row (argZ m c) ⟨0, by omega⟩)) (Ideal.ofBits .f32 0x4A000000#32)
        * Ideal.ofBits .f32 0x3E800000#32 := by
  have h : ∀ y, (out4 m c : FVec Ideal S1x1 .f32) y = k0_pay6 (F := Ideal) (accSt (F := Ideal) (zb m c) 3) := fun _ => rfl
  generalize (out4 m c : FVec Ideal S1x1 .f32) = v at h
  refine (h _).trans ?_
  rw [acc_last, gap_sum]
  rfl

/-- The third results are the same where the chosen row is row 0. -/
theorem third [Cert.On_where_row_zero_is_chosen.Facts] (hx : ∀ i, IsReal (argZ m c i)) (hw : ∀ i, IsReal (argW m c i))
    (e : S_.Idx) (he : (Cert.On_where_row_zero_is_chosen.fn (F := Ideal) (argZ m c) (argW m c)).2.2 e = 1#1) :
    shapeCast S_ (out4 m c) shapeCasts_S1x1_S_ e = loss (argZ m c) (argW m c) e := by
  obtain ⟨j, h1, h2⟩ := codes_first (argZ m c) (argW m c) hx hw
  rw [kernel_third, loss_eq (argZ m c) (argW m c) h1.1 h2,
    show row (argZ m c) ⟨j, h1.1⟩ = row (argZ m c) ⟨0, by omega⟩ from
      funext (Cert.On_where_row_zero_is_chosen.mask_third (argZ m c) (argW m c) h1 hw e he)]

end Cert.Equation

end
-- ==== Proof.RowZero.lean ====
module

public import proofs.«01_k».proof.Proof.Equation
public import proofs.«01_k».proof.Post_made_of_row_zero

@[expose] public section

set_option maxRecDepth 16384

noncomputable section

/-!
  What the postcondition says: the first result has row 0's channel at every entry, and the third is one and a quarter
  times the mean squared difference from row 0.
-/

namespace Cert.Post_made_of_row_zero

open Idealize.ShloMosaic Idealize.ShloMosaic.Tactic
open Cert.ReferenceIdeal.Hand (row spread)

variable [Facts]
open Facts

variable (x : FVec Ideal S8x256x32x32 .f32) (w : FVec Ideal S8192x256 .f32) (y : FVec Ideal S8x256x32x32 .f32)
  (k : IVec S8192 32) (s : FVec Ideal S_ .f32)

/-- Row 0's channels, one to a channel of the first argument. -/
def channels : FVec Ideal S1x256x1x1 .f32 :=
  broadcastInDim S1x256x1x1 ![1] bcast_S256_S1x256x1x1_1
    (shapeCast S256 (extractStridedSlice S1x256x1x1 ![0, 0, 0, 0] x slices_S8x256x32x32_S1x256x1x1_0_0_0_0)
      shapeCasts_S1x256x1x1_S256)

/-- Those channels at every entry. -/
def moved : FVec Ideal S8x256x32x32 .f32 :=
  broadcastInDim S8x256x32x32 ![0, 1, 2, 3] bcast_S1x256x1x1_S8x256x32x32_0_1_2_3 (channels x)

/-- The mean squared difference of the first argument from them. -/
def mean : FVec Ideal S_ .f32 :=
  Host.divf (Host.reduceAdd (mulf (subf (moved x) x) (subf (moved x) x)) (constant S_ .f32 0x00000000#32)
    reducesTo_S8x256x32x32_S_d0_1_2_3 h_S_) (constant S_ .f32 0x4A000000#32)

/-- The postcondition compares the results with those. -/
theorem fn_eq : fn (F := Ideal) x w y k s
    = (cmpf .oeq y (moved x), cmpf .oeq s (addf (mean x) (mulf (mean x) (constant S_ .f32 0x3E800000#32)))) := rfl

theorem moved_at (b : Fin 8) (l : Fin 256) (p q : Fin 32) : moved x (ix4 b l p q) = row x ⟨0, by omega⟩ l := by
  unfold row
  pointwise [moved, channels]

/-- A comparison of two equal numbers. -/
theorem eq_test {u v : EReal} (h : u = v) : FloatOps.cmpf (F := Ideal) (φ := .f32) .oeq u v = 1#1 := by
  subst h
  rw [Ideal.cmpf_def]
  exact congrArg BitVec.ofBool (decide_eq_true rfl)

/-- A sum with the channels second is the sum with the channels last. -/
theorem mean_eq (e : S_.Idx) :
    mean x e = Ideal.div (spread x (row x ⟨0, by omega⟩)) (Ideal.ofBits .f32 0x4A000000#32) := by
  have hm := moved_at x
  unfold mean
  generalize moved x = t at hm
  pointwise
  refine congrArg (Ideal.div · _) ?_
  rw [Ideal.hostReduceAdd_total _ (fun b => absurd b.isLt (Nat.not_lt_zero _)), zero_add, sum_idx4]
  unfold spread
  simp only [mulf_apply, subf_apply, hm]
  refine Finset.sum_congr rfl fun b _ => ?_
  rw [Finset.sum_comm]
  refine Finset.sum_congr rfl fun p _ => ?_
  rw [Finset.sum_comm]
  rfl

/-- The first part: it is enough that every entry is row 0's channel. -/
theorem first_holds (h : ∀ b l p q, y (ix4 b l p q) = row x ⟨0, by omega⟩ l) : (fn (F := Ideal) x w y k s).1 = fun _ => 1#1 := by
  rw [fn_eq]
  funext i
  obtain ⟨b, l, p, q, rfl⟩ : ∃ (b : Fin 8) (l : Fin 256) (p q : Fin 32), i = ix4 b l p q := ⟨_, _, _, _, eq_ix4 i⟩
  exact eq_test ((h b l p q).trans (moved_at x b l p q).symm)

/-- The second part: it is enough that the number is that mean and a quarter of it. -/
theorem third_holds (h : ∀ e, s e = Ideal.div (spread x (row x ⟨0, by omega⟩)) (Ideal.ofBits .f32 0x4A000000#32)
      + Ideal.div (spread x (row x ⟨0, by omega⟩)) (Ideal.ofBits .f32 0x4A000000#32) * Ideal.ofBits .f32 0x3E800000#32) :
    (fn (F := Ideal) x w y k s).2 = fun _ => 1#1 := by
  rw [fn_eq]
  funext e
  refine eq_test ((h e).trans ?_)
  rw [← mean_eq x e]
  rfl

end Cert.Post_made_of_row_zero

end
-- ==== Proof.lean ====
module

public import proofs.«01_k».proof.Defs
public import proofs.«01_k».proof.Proof.Gen.Kernel
public import proofs.«01_k».proof.Proof.KernelRun
public import proofs.«01_k».proof.Proof.Gen.KernelIdeal
public import proofs.«01_k».proof.Proof.Gen.ReferenceIdeal
public import proofs.«01_k».proof.Proof.Gen.Pre_finite
public import proofs.«01_k».proof.Proof.Gen.On_where_row_zero_is_chosen
public import proofs.«01_k».proof.Proof.Gen.Post_made_of_row_zero
public import proofs.«01_k».proof.Proof.RowZero
public import Idealize.ShloMosaic.Lib.Claim

@[expose] public section

set_option maxRecDepth 16384

/-!
  The claim: every run of each program ends with its arguments as they began and its counters at zero, and over the real
  numbers the kernel computes what the reference computes, its first and third result where the chosen row is row 0, those two
  being made of row 0 everywhere.
-/

open Idealize.ShloMosaic Idealize.ShloMosaic.TcCoe Idealize.SL.Sem

namespace Cert.Proof

/-- The two programs over the real numbers, for finite arguments: the second result everywhere, the first where the
    chosen row has row 0's channel, the third where the chosen row is row 0. -/
theorem value : Cert.algebraic_KernelIdeal_ReferenceIdeal_on_where_row_zero_is_chosen_pre_finite := by
  intro m g m' g' hpre hagree
  have hr := fun c => Cert.Pre_finite.reals _ _ (Shape.Idx.first (by decide)) (congrFun (hpre c) _)
  refine ⟨fun c => Cert.ReferenceIdeal.Hand.quantized (Cert.KernelIdeal.Hand.argZ m c) (Cert.KernelIdeal.Hand.argW m c),
    fun c => Cert.ReferenceIdeal.Hand.codes (Cert.KernelIdeal.Hand.argZ m c) (Cert.KernelIdeal.Hand.argW m c),
    fun c => Cert.ReferenceIdeal.Hand.loss (Cert.KernelIdeal.Hand.argZ m c) (Cert.KernelIdeal.Hand.argW m c), ?_, ?_⟩
  · refine (θ_run Cert.KernelIdeal.defs _ _).mono (fun r h c => ?_) (Cert.KernelIdeal.Hand.values m g)
    obtain ⟨⟨h1, h2, h3⟩, ha⟩ := h c
    obtain ⟨hx, hw⟩ := hr c
    refine ⟨fun i hi => ?_, fun i _ => ?_, fun i hi => ?_, ha⟩
    · rw [h1]; exact Cert.Equation.first m c hx hw i hi
    · rw [h2]; exact congrFun (Cert.Equation.second m c hx hw) i
    · rw [h3]; exact Cert.Equation.third m c hx hw i hi
  · refine (θ_run Cert.ReferenceIdeal.defs _ _).mono (fun r h c => ?_) (Cert.ReferenceIdeal.Hand.run m' g')
    obtain ⟨h1, h2, h3, ha⟩ := h.1 c
    obtain ⟨e0, e1⟩ := hagree c
    rw [e0, e1] at h1 h2 h3
    exact ⟨fun i _ => congrFun h1 i, fun i _ => congrFun h2 i, fun i _ => congrFun h3 i, ha⟩

/-- The kernel over the real numbers, for finite arguments: its first result is row 0's channel at every entry, its third
    the mean squared difference from row 0 and a quarter of it. -/
theorem row_zero : Cert.holds_KernelIdeal_made_of_row_zero_pre_finite := by
  intro m g hpre
  have hr := fun c => Cert.Pre_finite.reals _ _ (Shape.Idx.first (by decide)) (congrFun (hpre c) _)
  refine (θ_run Cert.KernelIdeal.defs _ _).mono (fun r h c => ?_) (Cert.KernelIdeal.Hand.values m g)
  obtain ⟨⟨h1, h2, h3⟩, a0, a1⟩ := h c
  refine ⟨a0, a1, Cert.Post_made_of_row_zero.first_holds _ _ _ _ _ fun b l p q => ?_,
    Cert.Post_made_of_row_zero.third_holds _ _ _ _ _ fun e => ?_⟩
  · rw [h1]; exact Cert.Equation.kernel_first m c (hr c).1 b l p q
  · rw [h3]; exact Cert.Equation.kernel_third m c e

/-- Everything the certificate claims. -/
theorem claim : Cert.Claim :=
  ⟨Cert.Kernel.Gen.facts, Cert.KernelIdeal.Gen.facts, Cert.ReferenceIdeal.Gen.facts, Cert.Pre_finite.Gen.facts,
    Cert.Post_made_of_row_zero.Gen.facts, Cert.On_where_row_zero_is_chosen.Gen.facts, fun m ρ _ => Cert.Kernel.Hand.frame m ρ, fun m ρ _ => Cert.KernelIdeal.Hand.frame m ρ,
    fun m ρ _ => Cert.KernelIdeal.Hand.frame m ρ, fun m ρ _ => Cert.ReferenceIdeal.Hand.frame m ρ,
    fun m ρ _ => Cert.ReferenceIdeal.Hand.frame m ρ, trivial, value, row_zero⟩

end Cert.Proof
